-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_experts_KernelIdeal [hPre_two_experts_KernelIdeal : Cert.Pre_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_experts_ReferenceIdeal [hPre_two_experts_ReferenceIdeal : Cert.Pre_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_two_experts_KernelIdeal [hKernelIdeal : Cert.KernelIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_experts_ReferenceIdeal [hReferenceIdeal : Cert.ReferenceIdeal.Facts] [hPre_two_experts_ReferenceIdeal : Cert.Pre_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_two_experts_KernelIdeal [hKernelIdeal : Cert.KernelIdeal.Facts] [hReferenceIdeal : Cert.ReferenceIdeal.Facts] [hPre_two_experts_KernelIdeal : Cert.Pre_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_two_experts_KernelIdeal : Cert.Pre_two_experts_KernelIdeal.Facts) (hPre_two_experts_ReferenceIdeal : Cert.Pre_two_experts_ReferenceIdeal.Facts),
    quiescent_Kernel (hKernel := hKernel)
    ∧ quiescent_KernelIdeal (hKernelIdeal := hKernelIdeal)
    ∧ quiescent_KernelIdeal_pre_two_experts_KernelIdeal (hKernelIdeal := hKernelIdeal) (hPre_two_experts_KernelIdeal := hPre_two_experts_KernelIdeal)
    ∧ quiescent_ReferenceIdeal (hReferenceIdeal := hReferenceIdeal)
    ∧ quiescent_ReferenceIdeal_pre_two_experts_ReferenceIdeal (hReferenceIdeal := hReferenceIdeal) (hPre_two_experts_ReferenceIdeal := hPre_two_experts_ReferenceIdeal)
    ∧ preserves_Kernel_KernelIdeal
    ∧ algebraic_KernelIdeal_ReferenceIdeal_pre_two_experts_KernelIdeal (hKernelIdeal := hKernelIdeal) (hReferenceIdeal := hReferenceIdeal) (hPre_two_experts_KernelIdeal := hPre_two_experts_KernelIdeal)
-- ==== Pre_two_experts_KernelIdeal.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  slices_S512x2_S512x1_0_0 : S512x2.Slices ![0, 0] S512x1
  shapeCasts_S512x1_S512 : S512x1.ShapeCasts S512
  slices_S512x2_S512x1_0_1 : S512x2.Slices ![0, 1] S512x1
  reducesTo_S512_S_d0 : S512.ReducesTo [0] S_

variable [Facts]

def fn {F : FTy → Type} [FloatOps F] (main_arg0 : FVec F S512x256 .bf16) (main_arg1 : FVec F S256x16 .bf16) (main_arg2 : IVec S512x2 32) (main_arg3 : FVec F S2x256x512 .bf16) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 1 := constantI S_ 1 1#1
  let main_v2 : IVec S_ 1 := (fun x v => Host.reduce IntOp.andi x v reducesTo_S512x2_S_d0_1 h_S_) main_v1 main_c_0
  let main_c_1 : IVec S_ 32 := constantI S_ 32 16#32
  let main_v3 : IVec S512x2 32 := broadcastInDim S512x2 ![] bcast_S_S512x2 main_c_1
  let main_v4 : IVec S512x2 1 := cmpi .slt main_arg2 main_v3
  let main_c_2 : IVec S_ 1 := constantI S_ 1 1#1
  let main_v5 : IVec S_ 1 := (fun x v => Host.reduce IntOp.andi x v reducesTo_S512x2_S_d0_1 h_S_) main_v4 main_c_2
  let main_v6 : IVec S_ 1 := andi main_v2 main_v5
  let main_v7 : IVec S512x1 32 := (extractStridedSlice S512x1 ![0, 0] · slices_S512x2_S512x1_0_0) main_arg2
  let main_v8 : IVec S512 32 := shapeCast S512 main_v7 shapeCasts_S512x1_S512
  let main_v9 : IVec S512x1 32 := (extractStridedSlice S512x1 ![0, 1] · slices_S512x2_S512x1_0_1) main_arg2
  let main_v10 : IVec S512 32 := shapeCast S512 main_v9 shapeCasts_S512x1_S512
  let main_v11 : IVec S512 1 := cmpi .ne main_v8 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v6 main_v12
  main_v13
-- ==== Pre_two_experts_ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  reducesTo_S512x2_S_d0_1 : S512x2.ReducesTo [0, 1] S_
  h_S_ : 0 < S_.numel
  slices_S512x2_S512x1_0_0 : S512x2.Slices ![0, 0] S512x1
  shapeCasts_S512x1_S512 : S512x1.ShapeCasts S512
  slices_S512x2_S512x1_0_1 : S512x2.Slices ![0, 1] S512x1
  reducesTo_S512_S_d0 : S512.ReducesTo [0] S_

variable [Facts]

def fn {F : FTy → Type} [FloatOps F] (main_arg0 : FVec F S512x256 .bf16) (main_arg1 : FVec F S256x16 .bf16) (main_arg2 : IVec S512x2 32) (main_arg3 : FVec F S16x256x512 .bf16) : IVec S_ 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 1 := constantI S_ 1 1#1
  let main_v2 : IVec S_ 1 := (fun x v => Host.reduce IntOp.andi x v reducesTo_S512x2_S_d0_1 h_S_) main_v1 main_c_0
  let main_c_1 : IVec S_ 32 := constantI S_ 32 16#32
  let main_v3 : IVec S512x2 32 := broadcastInDim S512x2 ![] bcast_S_S512x2 main_c_1
  let main_v4 : IVec S512x2 1 := cmpi .slt main_arg2 main_v3
  let main_c_2 : IVec S_ 1 := constantI S_ 1 1#1
  let main_v5 : IVec S_ 1 := (fun x v => Host.reduce IntOp.andi x v reducesTo_S512x2_S_d0_1 h_S_) main_v4 main_c_2
  let main_v6 : IVec S_ 1 := andi main_v2 main_v5
  let main_v7 : IVec S512x1 32 := (extractStridedSlice S512x1 ![0, 0] · slices_S512x2_S512x1_0_0) main_arg2
  let main_v8 : IVec S512 32 := shapeCast S512 main_v7 shapeCasts_S512x1_S512
  let main_v9 : IVec S512x1 32 := (extractStridedSlice S512x1 ![0, 1] · slices_S512x2_S512x1_0_1) main_arg2
  let main_v10 : IVec S512 32 := shapeCast S512 main_v9 shapeCasts_S512x1_S512
  let main_v11 : IVec S512 1 := cmpi .ne main_v8 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v6 main_v12
  main_v13
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S64x512 : Shape := ⟨2, ![64, 512]⟩
abbrev S8x64x512 : Shape := ⟨3, ![8, 64, 512]⟩
abbrev S7x64x512 : Shape := ⟨3, ![7, 64, 512]⟩
abbrev S7 : Shape := ⟨1, ![7]⟩
abbrev S_ : Shape := ⟨0, ![]⟩
abbrev S512x16 : Shape := ⟨2, ![512, 16]⟩
abbrev S512 : Shape := ⟨1, ![512]⟩
abbrev S512x1 : Shape := ⟨2, ![512, 1]⟩
abbrev S512x512 : Shape := ⟨2, ![512, 512]⟩
abbrev S1x256x512 : Shape := ⟨3, ![1, 256, 512]⟩
abbrev S256x512 : Shape := ⟨2, ![256, 512]⟩
abbrev S1x64x512 : Shape := ⟨3, ![1, 64, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S2x256x512, .bf16⟩
  | .hbm, ⟨4, _⟩ => ⟨S64x512, .f32⟩
  | .local _ .vmem, ⟨0, _⟩ => ⟨S512x256, .bf16⟩
  | .local _ .vmem, ⟨1, _⟩ => ⟨S256x16, .bf16⟩
  | .local _ .vmem, ⟨2, _⟩ => ⟨S512x2, .i32⟩
  | .local _ .vmem, ⟨3, _⟩ => ⟨S2x256x512, .bf16⟩
  | .local _ .vmem, ⟨4, _⟩ => ⟨S64x512, .f32⟩
  | .local _ .vmem, ⟨5, _⟩ => ⟨S8x64x512, .bf16⟩
  | .local _ .vmem, ⟨6, _⟩ => ⟨S7x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_113 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v205 : BitVec 32 := Scalar.addi v2 c1_i32_113
  let c8_i32_114 : BitVec 32 := 8#32
  let c0_i32_115 : BitVec 32 := 0#32
  let v206 : BitVec 1 := Scalar.cmpi .eq c8_i32_114 c0_i32_115
  let c1_i32_116 : BitVec 32 := 1#32
  let v207 : BitVec 32 := Scalar.select v206 c1_i32_116 c8_i32_114
  let v208 : BitVec 32 := Scalar.remsi v205 v207
  let c0_i32_118 : BitVec 32 := 0#32
  let v210 : BitVec 1 := Scalar.cmpi .slt v208 c0_i32_118
  let c0_i32_119 : BitVec 32 := 0#32
  let v211 : BitVec 1 := Scalar.cmpi .slt v207 c0_i32_119
  let v212 : BitVec 1 := Scalar.xori v210 v211
  let c0_i32_117 : BitVec 32 := 0#32
  let v209 : BitVec 1 := Scalar.cmpi .ne v208 c0_i32_117
  let v213 : BitVec 1 := Scalar.andi v212 v209
  let v214 : BitVec 32 := Scalar.addi v208 v207
  let v215 : BitVec 32 := Scalar.select v213 v214 v208
  let c0_i32_127 : BitVec 32 := 0#32
  let c0_i32_128 : BitVec 32 := 0#32
  ![v215.toNat, 0, 0]
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_113 : BitVec 32 := 1#32
  let v205 : BitVec 32 := Scalar.addi v2 c1_i32_113
  let c8_i32_114 : BitVec 32 := 8#32
  let c0_i32_115 : BitVec 32 := 0#32
  let v206 : BitVec 1 := Scalar.cmpi .eq c8_i32_114 c0_i32_115
  let c1_i32_116 : BitVec 32 := 1#32
  let v207 : BitVec 32 := Scalar.select v206 c1_i32_116 c8_i32_114
  let v208 : BitVec 32 := Scalar.remsi v205 v207
  let c0_i32_118 : BitVec 32 := 0#32
  let v210 : BitVec 1 := Scalar.cmpi .slt v208 c0_i32_118
  let c0_i32_119 : BitVec 32 := 0#32
  let v211 : BitVec 1 := Scalar.cmpi .slt v207 c0_i32_119
  let v212 : BitVec 1 := Scalar.xori v210 v211
  let c0_i32_117 : BitVec 32 := 0#32
  let v209 : BitVec 1 := Scalar.cmpi .ne v208 c0_i32_117
  let v213 : BitVec 1 := Scalar.andi v212 v209
  let v214 : BitVec 32 := Scalar.addi v208 v207
  let v215 : BitVec 32 := Scalar.select v213 v214 v208
  let c1_i32_123 : BitVec 32 := 1#32
  let v216 : BitVec 32 := Scalar.muli v215 c1_i32_123
  let v217 : BitVec 32 := Scalar.addi c0_i32_124 v216
  v217.toNat
def k0_dev9 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_129 : BitVec 32 := 2#32
  let v226 : BitVec 32 := Scalar.addi v2 c2_i32_129
  let c8_i32_130 : BitVec 32 := 8#32
  let c0_i32_131 : BitVec 32 := 0#32
  let v227 : BitVec 1 := Scalar.cmpi .eq c8_i32_130 c0_i32_131
  let c1_i32_132 : BitVec 32 := 1#32
  let v228 : BitVec 32 := Scalar.select v227 c1_i32_132 c8_i32_130
  let v229 : BitVec 32 := Scalar.remsi v226 v228
  let c0_i32_134 : BitVec 32 := 0#32
  let v231 : BitVec 1 := Scalar.cmpi .slt v229 c0_i32_134
  let c0_i32_135 : BitVec 32 := 0#32
  let v232 : BitVec 1 := Scalar.cmpi .slt v228 c0_i32_135
  let v233 : BitVec 1 := Scalar.xori v231 v232
  let c0_i32_133 : BitVec 32 := 0#32
  let v230 : BitVec 1 := Scalar.cmpi .ne v229 c0_i32_133
  let v234 : BitVec 1 := Scalar.andi v233 v230
  let v235 : BitVec 32 := Scalar.addi v229 v228
  let v236 : BitVec 32 := Scalar.select v234 v235 v229
  let c1_i32_139 : BitVec 32 := 1#32
  let v237 : BitVec 32 := Scalar.muli v236 c1_i32_139
  let v238 : BitVec 32 := Scalar.addi c0_i32_140 v237
  v238.toNat
def k0_dev10 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_145 : BitVec 32 := 3#32
  let v247 : BitVec 32 := Scalar.addi v2 c3_i32_145
  let c8_i32_146 : BitVec 32 := 8#32
  let c0_i32_147 : BitVec 32 := 0#32
  let v248 : BitVec 1 := Scalar.cmpi .eq c8_i32_146 c0_i32_147
  let c1_i32_148 : BitVec 32 := 1#32
  let v249 : BitVec 32 := Scalar.select v248 c1_i32_148 c8_i32_146
  let v250 : BitVec 32 := Scalar.remsi v247 v249
  let c0_i32_150 : BitVec 32 := 0#32
  let v252 : BitVec 1 := Scalar.cmpi .slt v250 c0_i32_150
  let c0_i32_151 : BitVec 32 := 0#32
  let v253 : BitVec 1 := Scalar.cmpi .slt v249 c0_i32_151
  let v254 : BitVec 1 := Scalar.xori v252 v253
  let c0_i32_149 : BitVec 32 := 0#32
  let v251 : BitVec 1 := Scalar.cmpi .ne v250 c0_i32_149
  let v255 : BitVec 1 := Scalar.andi v254 v251
  let v256 : BitVec 32 := Scalar.addi v250 v249
  let v257 : BitVec 32 := Scalar.select v255 v256 v250
  let c1_i32_155 : BitVec 32 := 1#32
  let v258 : BitVec 32 := Scalar.muli v257 c1_i32_155
  let v259 : BitVec 32 := Scalar.addi c0_i32_156 v258
  v259.toNat
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_161 : BitVec 32 := 4#32
  let v268 : BitVec 32 := Scalar.addi v2 c4_i32_161
  let c8_i32_162 : BitVec 32 := 8#32
  let c0_i32_163 : BitVec 32 := 0#32
  let v269 : BitVec 1 := Scalar.cmpi .eq c8_i32_162 c0_i32_163
  let c1_i32_164 : BitVec 32 := 1#32
  let v270 : BitVec 32 := Scalar.select v269 c1_i32_164 c8_i32_162
  let v271 : BitVec 32 := Scalar.remsi v268 v270
  let c0_i32_166 : BitVec 32 := 0#32
  let v273 : BitVec 1 := Scalar.cmpi .slt v271 c0_i32_166
  let c0_i32_167 : BitVec 32 := 0#32
  let v274 : BitVec 1 := Scalar.cmpi .slt v270 c0_i32_167
  let v275 : BitVec 1 := Scalar.xori v273 v274
  let c0_i32_165 : BitVec 32 := 0#32
  let v272 : BitVec 1 := Scalar.cmpi .ne v271 c0_i32_165
  let v276 : BitVec 1 := Scalar.andi v275 v272
  let v277 : BitVec 32 := Scalar.addi v271 v270
  let v278 : BitVec 32 := Scalar.select v276 v277 v271
  let c1_i32_171 : BitVec 32 := 1#32
  let v279 : BitVec 32 := Scalar.muli v278 c1_i32_171
  let v280 : BitVec 32 := Scalar.addi c0_i32_172 v279
  v280.toNat
def k0_dev12 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v289 : BitVec 32 := Scalar.addi v2 c5_i32_177
  let c8_i32_178 : BitVec 32 := 8#32
  let c0_i32_179 : BitVec 32 := 0#32
  let v290 : BitVec 1 := Scalar.cmpi .eq c8_i32_178 c0_i32_179
  let c1_i32_180 : BitVec 32 := 1#32
  let v291 : BitVec 32 := Scalar.select v290 c1_i32_180 c8_i32_178
  let v292 : BitVec 32 := Scalar.remsi v289 v291
  let c0_i32_182 : BitVec 32 := 0#32
  let v294 : BitVec 1 := Scalar.cmpi .slt v292 c0_i32_182
  let c0_i32_183 : BitVec 32 := 0#32
  let v295 : BitVec 1 := Scalar.cmpi .slt v291 c0_i32_183
  let v296 : BitVec 1 := Scalar.xori v294 v295
  let c0_i32_181 : BitVec 32 := 0#32
  let v293 : BitVec 1 := Scalar.cmpi .ne v292 c0_i32_181
  let v297 : BitVec 1 := Scalar.andi v296 v293
  let v298 : BitVec 32 := Scalar.addi v292 v291
  let v299 : BitVec 32 := Scalar.select v297 v298 v292
  let c1_i32_187 : BitVec 32 := 1#32
  let v300 : BitVec 32 := Scalar.muli v299 c1_i32_187
  let v301 : BitVec 32 := Scalar.addi c0_i32_188 v300
  v301.toNat
def k0_dev13 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_193 : BitVec 32 := 6#32
  let v310 : BitVec 32 := Scalar.addi v2 c6_i32_193
  let c8_i32_194 : BitVec 32 := 8#32
  let c0_i32_195 : BitVec 32 := 0#32
  let v311 : BitVec 1 := Scalar.cmpi .eq c8_i32_194 c0_i32_195
  let c1_i32_196 : BitVec 32 := 1#32
  let v312 : BitVec 32 := Scalar.select v311 c1_i32_196 c8_i32_194
  let v313 : BitVec 32 := Scalar.remsi v310 v312
  let c0_i32_198 : BitVec 32 := 0#32
  let v315 : BitVec 1 := Scalar.cmpi .slt v313 c0_i32_198
  let c0_i32_199 : BitVec 32 := 0#32
  let v316 : BitVec 1 := Scalar.cmpi .slt v312 c0_i32_199
  let v317 : BitVec 1 := Scalar.xori v315 v316
  let c0_i32_197 : BitVec 32 := 0#32
  let v314 : BitVec 1 := Scalar.cmpi .ne v313 c0_i32_197
  let v318 : BitVec 1 := Scalar.andi v317 v314
  let v319 : BitVec 32 := Scalar.addi v313 v312
  let v320 : BitVec 32 := Scalar.select v318 v319 v313
  let c1_i32_203 : BitVec 32 := 1#32
  let v321 : BitVec 32 := Scalar.muli v320 c1_i32_203
  let v322 : BitVec 32 := Scalar.addi c0_i32_204 v321
  v322.toNat
def k0_dev14 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_209 : BitVec 32 := 7#32
  let v331 : BitVec 32 := Scalar.addi v2 c7_i32_209
  let c8_i32_210 : BitVec 32 := 8#32
  let c0_i32_211 : BitVec 32 := 0#32
  let v332 : BitVec 1 := Scalar.cmpi .eq c8_i32_210 c0_i32_211
  let c1_i32_212 : BitVec 32 := 1#32
  let v333 : BitVec 32 := Scalar.select v332 c1_i32_212 c8_i32_210
  let v334 : BitVec 32 := Scalar.remsi v331 v333
  let c0_i32_214 : BitVec 32 := 0#32
  let v336 : BitVec 1 := Scalar.cmpi .slt v334 c0_i32_214
  let c0_i32_215 : BitVec 32 := 0#32
  let v337 : BitVec 1 := Scalar.cmpi .slt v333 c0_i32_215
  let v338 : BitVec 1 := Scalar.xori v336 v337
  let c0_i32_213 : BitVec 32 := 0#32
  let v335 : BitVec 1 := Scalar.cmpi .ne v334 c0_i32_213
  let v339 : BitVec 1 := Scalar.andi v338 v335
  let v340 : BitVec 32 := Scalar.addi v334 v333
  let v341 : BitVec 32 := Scalar.select v339 v340 v334
  let c1_i32_219 : BitVec 32 := 1#32
  let v342 : BitVec 32 := Scalar.muli v341 c1_i32_219
  let v343 : BitVec 32 := Scalar.addi c0_i32_220 v342
  v343.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v352 : Index := Scalar.indexCast v2
  let c0_225 : Index := 0#32
  let c0_226 : Index := 0#32
  ![v352.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x2 : Shape := ⟨2, ![512, 2]⟩
abbrev S16x256x512 : Shape := ⟨3, ![16, 256, 512]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x2x1 : Shape := ⟨3, ![512, 2, 1]⟩
abbrev S512x256x512 : Shape := ⟨3, ![512, 256, 512]⟩
abbrev S512x512 : Shape := ⟨2, ![512, 512]⟩

abbrev nBuf : Space → Nat
  | .hbm => 64
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x2, .i32⟩
  | .hbm, ⟨3, _⟩ => ⟨S16x256x512, .bf16⟩
  | .hbm, ⟨4, _⟩ => ⟨S512x256, .f32⟩
  | .hbm, ⟨5, _⟩ => ⟨S256x16, .f32⟩
  | .hbm, ⟨6, _⟩ => ⟨S16x256x512, .f32⟩
  | .hbm, ⟨7, _⟩ => ⟨S512x16, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x16, .f32⟩
  | .hbm, ⟨12, _⟩ => ⟨S512x16, .f32⟩
  | .hbm, ⟨13, _⟩ => ⟨S512x16, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x16, .f32⟩
  | .hbm, ⟨18, _⟩ => ⟨S512x16, .f32⟩
  | .hbm, ⟨19, _⟩ => ⟨S_, .i32⟩
  | .hbm, ⟨20, _⟩ => ⟨S512x2, .i32⟩
  | .hbm, ⟨21, _⟩ => ⟨S512x2, .i1⟩
  | .hbm, ⟨22, _⟩ => ⟨S_, .i32⟩
  | .hbm, ⟨23, _⟩ => ⟨S512x2, .i32⟩
  | .hbm, ⟨24, _⟩ => ⟨S512x2, .i32⟩
  | .hbm, ⟨25, _⟩ => ⟨S512x2, .i32⟩
  | .hbm, ⟨26, _⟩ => ⟨S512x2x1, .i32⟩
  | .hbm, ⟨27, _⟩ => ⟨S512x2, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S512x256x512, .f32⟩
  | .hbm, ⟨42, _⟩ => ⟨S512x512, .f32⟩
  | .hbm, ⟨43, _⟩ => ⟨S512x1, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S_, .i32⟩
  | .hbm, ⟨49, _⟩ => ⟨S512, .i32⟩
  | .hbm, ⟨50, _⟩ => ⟨S512, .i32⟩
  | .hbm, ⟨51, _⟩ => ⟨S512, .i32⟩
  | .hbm, ⟨52, _⟩ => ⟨S512x1, .i32⟩
  | .hbm, ⟨53, _⟩ => ⟨S512x256x512, .f32⟩
  | .hbm, ⟨54, _⟩ => ⟨S512x512, .f32⟩
  | .hbm, ⟨55, _⟩ => ⟨S512x1, .f32⟩
  | .hbm, ⟨56, _⟩ => ⟨S512x1, .f32⟩
  | .hbm, ⟨57, _⟩ => ⟨S512x512, .f32⟩
  | .hbm, ⟨58, _⟩ => ⟨S512x512, .f32⟩
  | .hbm, ⟨59, _⟩ => ⟨S512x1, .f32⟩
  | .hbm, ⟨60, _⟩ => ⟨S512x1, .f32⟩
  | .hbm, ⟨61, _⟩ => ⟨S512x512, .f32⟩
  | .hbm, ⟨62, _⟩ => ⟨S512x512, .f32⟩
  | .hbm, ⟨63, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Proof.Proto.lean ====
/-
The mixture-of-experts kernel over eight devices: the set-up of its run. The peers of a device, the two scratch
buffers cut into their leading slots, the semaphore cells, what every cell's round hands over, what a device owes,
and the order in which the waits are allowed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the semaphores' rounds, of seven duties each. -/
abbrev UB : Type := URounds (GSem nD τ sig) (Fin 7)
/-- The launch's ghost state beside the rounds'. -/
abbrev UU : Type := UR sig nD τ × UB

local notation "𝕄" => MT nD τ sig Unit (Elt F) ℕ UU ℕ

/-- Where the launch's ghost state lies. -/
abbrev EP : Emb (UR sig nD τ) (MT nD τ sig Unit (Elt F) ℕ UU ℕ) := embL
/-- Where the rounds' ghost state lies. -/
abbrev ER : Emb UB (MT nD τ sig Unit (Elt F) ℕ UU ℕ) := embR

variable (m : (ℓ : Loc nD τ sig) → Buf (Elt F) ℓ) (ρ : Dev nD → PrngReg)

/-- The memory the run starts from: any contents, all counters at zero, any generator registers. -/
def s₀ : MemSt nD τ sig (Elt F) := ⟨m, fun _ => 0, ρ⟩

/-! ## Peers -/

set_option backward.proofsInPublic true in
/-- The device `j + 1` places after `c`. -/
def peer (c : Dev nD) (j : Fin 7) : Dev nD := ⟨(c.val + (j.val + 1)) % 8, Nat.mod_lt _ (by decide)⟩
set_option backward.proofsInPublic true in
/-- The device `j + 1` places before `c`. -/
def back (c : Dev nD) (j : Fin 7) : Dev nD := ⟨(c.val + (7 - j.val)) % 8, Nat.mod_lt _ (by decide)⟩
set_option backward.proofsInPublic true in
/-- The number of places that undoes `j`: a device's `rv j`-th peer is the one of which it is the `j`-th. -/
def rv (j : Fin 7) : Fin 7 := ⟨6 - j.val, by omega⟩

/-- The `j`-th predecessor of the `j`-th peer is the device itself. -/
theorem back_peer (c : Dev nD) (j : Fin 7) : back (peer c j) j = c := by revert c j; decide
/-- The `j`-th peer of the `j`-th predecessor is the device itself. -/
theorem peer_back (c : Dev nD) (j : Fin 7) : peer (back c j) j = c := by revert c j; decide
/-- Peers counted from the other end are predecessors. -/
theorem peer_rv (c : Dev nD) (j : Fin 7) : peer c (rv j) = back c j := by revert c j; decide
/-- Predecessors counted from the other end are peers. -/
theorem back_rv (c : Dev nD) (j : Fin 7) : back c (rv j) = peer c j := by revert c j; decide
/-- Counting from the other end twice changes nothing. -/
theorem rv_rv (j : Fin 7) : rv (rv j) = j := by revert j; decide
/-- Different steps lead to different peers. -/
theorem peer_inj (c : Dev nD) {i j : Fin 7} (h : peer c i = peer c j) : i = j := by revert c i j; decide
/-- No device is its own peer. -/
theorem peer_ne (c : Dev nD) (j : Fin 7) : peer c j ≠ c := by revert c j; decide
/-- A device's `j`-th peer is `c` exactly when the device is `c`'s `j`-th predecessor. -/
theorem back_peer_iff {c d : Dev nD} {j : Fin 7} : peer d j = c ↔ d = back c j :=
  ⟨fun h => by rw [← h, back_peer], fun h => by rw [h, peer_back]⟩

/-- Moving `j + 1` places on, as a permutation of the devices. -/
def turn (j : Fin 7) : Dev nD ≃ Dev nD := ⟨fun c => peer c j, fun c => back c j, fun c => back_peer c j, fun c => peer_back c j⟩
/-- Counting from the other end, as a bijection. -/
def rvEquiv : Fin 7 ≃ Fin 7 := ⟨rv, rv, rv_rv, rv_rv⟩

/-! ## Buffers and semaphores -/

/-- The staged tokens. -/
abbrev xM : Memref sig .tc .vmem S512x256 .bf16 := Memref.whole cc0_stg0_0
/-- The staged router's matrix. -/
abbrev wM : Memref sig .tc .vmem S256x16 .bf16 := Memref.whole cc0_stg1_0
/-- The staged table. -/
abbrev iM : Memref sig .tc .vmem S512x2 .i32 := Memref.whole cc0_stg2_0
/-- The staged experts. -/
abbrev eM : Memref sig .tc .vmem S2x256x512 .bf16 := Memref.whole cc0_stg3_0
/-- The staged result. -/
abbrev oM : Memref sig .tc .vmem S64x512 .f32 := Memref.whole cc0_stg4_0
/-- The send buffer. -/
abbrev aM : Memref sig .tc .vmem S8x64x512 .bf16 := Memref.whole cc0_scratch0
/-- The receive buffer. -/
abbrev cM : Memref sig .tc .vmem S7x64x512 .bf16 := Memref.whole cc0_scratch1

/-- The barrier's semaphore. -/
abbrev barS : Sem sig := (SemArray.scalar (sig.barrier 0 rfl) : Sems sig S_).sem
set_option backward.proofsInPublic true in
/-- The semaphore of the `j`-th outgoing copy. -/
def sendS (j : Fin 7) : DmaSem sig := (⟨5 + j.val, by omega⟩ : Fin 19)
set_option backward.proofsInPublic true in
/-- The semaphore of the `j`-th incoming copy. -/
def recvS (j : Fin 7) : DmaSem sig := (⟨12 + j.val, by omega⟩ : Fin 19)

/-- The kinds of cell a device has: its barrier's, and one per outgoing and per incoming copy. -/
abbrev Kd : Type := Unit ⊕ (Fin 7 ⊕ Fin 7)

/-- The copies' fourteen semaphores: seven for sending, seven for receiving. -/
def osem : Fin 7 ⊕ Fin 7 → SemLoc sig
  | .inl j => .dma (sendS j)
  | .inr j => .dma (recvS j)
/-- All fifteen semaphores of a device: the barrier's and the copies'. -/
def csem : Kd → SemLoc sig
  | .inl _ => .reg barS
  | .inr k => osem k

/-- Device `c`'s barrier. -/
abbrev barCell (c : Dev nD) : GSem nD τ sig := ((c : Thread nD τ), .reg barS)
/-- Device `c`'s `j`-th send semaphore. -/
abbrev sendCell (c : Dev nD) (j : Fin 7) : GSem nD τ sig := ((c : Thread nD τ), .dma (sendS j))
/-- Device `c`'s `j`-th receive semaphore. -/
abbrev recvCell (c : Dev nD) (j : Fin 7) : GSem nD τ sig := ((c : Thread nD τ), .dma (recvS j))
/-- A device's semaphore of a given kind. -/
abbrev kcell (ck : Dev nD × Kd) : GSem nD τ sig := ((ck.1 : Thread nD τ), csem ck.2)

/-! ## Slots -/

/-- Each slab lies in the send buffer. -/
theorem inbA (i : Fin 8) : ∀ a, (![i.val, 0, 0] : Fin 3 → ℕ) a + S1x64x512.size a ≤ S8x64x512.size a := by revert i; decide
/-- Each slab lies in the receive buffer. -/
theorem inbC (j : Fin 7) : ∀ a, (![j.val, 0, 0] : Fin 3 → ℕ) a + S1x64x512.size a ≤ S7x64x512.size a := by revert j; decide

/-- The elements of the `i`-th row block of the accumulator, and of the `j`-th landing slot. -/
def accSet (i : Fin 8) : Finset S8x64x512.Idx := (Rect.unit (s := S8x64x512) ![i.val, 0, 0] S1x64x512.size (inbA i)).set
/-- The elements of the receive buffer's `j`-th slab. -/
def comSet (j : Fin 7) : Finset S7x64x512.Idx := (Rect.unit (s := S7x64x512) ![j.val, 0, 0] S1x64x512.size (inbC j)).set

/-- Different slabs of the send buffer share no element. -/
theorem accSet_disjoint (i i' : Fin 8) (h : i ≠ i') : Disjoint (accSet i) (accSet i') :=
  Ring.lead_disjoint (s := S8x64x512) 0 1 (fun i : Fin 8 => ![i.val, 0, 0]) S1x64x512.size inbA (by intro b; simp) (by decide) i i' h
/-- The eight slabs are the whole send buffer. -/
theorem accSet_cover : Finset.univ.biUnion accSet = Finset.univ :=
  Ring.lead_cover (s := S8x64x512) 0 1 (fun i : Fin 8 => ![i.val, 0, 0]) S1x64x512.size inbA (by intro b; simp) (by decide) (by decide) (by decide) (by decide)
/-- Different slabs of the receive buffer share no element. -/
theorem comSet_disjoint (i i' : Fin 7) (h : i ≠ i') : Disjoint (comSet i) (comSet i') :=
  Ring.lead_disjoint (s := S7x64x512) 0 1 (fun i : Fin 7 => ![i.val, 0, 0]) S1x64x512.size inbC (by intro b; simp) (by decide) i i' h
/-- The seven slabs are the whole receive buffer. -/
theorem comSet_cover : Finset.univ.biUnion comSet = Finset.univ :=
  Ring.lead_cover (s := S7x64x512) 0 1 (fun i : Fin 7 => ![i.val, 0, 0]) S1x64x512.size inbC (by intro b; simp) (by decide) (by decide) (by decide) (by decide)

/-- The place inside its block of an element of the accumulator, and of the landing buffer. -/
def dropA (y : S8x64x512.Idx) : S1x64x512.Idx := fun a => match a with
  | ⟨0, _⟩ => (⟨0, by decide⟩ : Fin 1) | ⟨1, _⟩ => (⟨(y 1).val, (y 1).isLt⟩ : Fin 64) | ⟨2, _⟩ => (⟨(y 2).val, (y 2).isLt⟩ : Fin 512)
/-- An element of the receive buffer within its slab. -/
def dropC (y : S7x64x512.Idx) : S1x64x512.Idx := fun a => match a with
  | ⟨0, _⟩ => (⟨0, by decide⟩ : Fin 1) | ⟨1, _⟩ => (⟨(y 1).val, (y 1).isLt⟩ : Fin 64) | ⟨2, _⟩ => (⟨(y 2).val, (y 2).isLt⟩ : Fin 512)

/-- An element embedded into the send buffer's slab and dropped again is itself. -/
theorem dropA_emb (i : Fin 8) (off : Fin 3 → ℕ) (inb) (h : off = ![i.val, 0, 0]) (z : S1x64x512.Idx) :
    dropA ((Rect.unit (s := S8x64x512) off S1x64x512.size inb).emb z) = z := by
  subst h
  refine Shape.idx3_ext ?_ ?_ ?_
  · have := (z 0).isLt; change 0 = (z 0).val; change (z 0).val < 1 at this; omega
  · show 0 + 1 * (z 1).val = (z 1).val; omega
  · show 0 + 1 * (z 2).val = (z 2).val; omega
/-- An element embedded into the `i`-th slab of the send buffer has first coordinate `i`. -/
theorem emb0_A (i : Fin 8) (off : Fin 3 → ℕ) (inb) (h : off = ![i.val, 0, 0]) (z : S1x64x512.Idx) :
    (((Rect.unit (s := S8x64x512) off S1x64x512.size inb).emb z) 0).val = i.val := by
  subst h
  have := (z 0).isLt; change (z 0).val < 1 at this
  show i.val + 1 * (z 0).val = i.val; omega
/-- An element embedded into the receive buffer's slab and dropped again is itself. -/
theorem dropC_emb (i : Fin 7) (off : Fin 3 → ℕ) (inb) (h : off = ![i.val, 0, 0]) (z : S1x64x512.Idx) :
    dropC ((Rect.unit (s := S7x64x512) off S1x64x512.size inb).emb z) = z := by
  subst h
  refine Shape.idx3_ext ?_ ?_ ?_
  · have := (z 0).isLt; change 0 = (z 0).val; change (z 0).val < 1 at this; omega
  · show 0 + 1 * (z 1).val = (z 1).val; omega
  · show 0 + 1 * (z 2).val = (z 2).val; omega
/-- An element embedded into the `i`-th slab of the receive buffer has first coordinate `i`. -/
theorem emb0_C (i : Fin 7) (off : Fin 3 → ℕ) (inb) (h : off = ![i.val, 0, 0]) (z : S1x64x512.Idx) :
    (((Rect.unit (s := S7x64x512) off S1x64x512.size inb).emb z) 0).val = i.val := by
  subst h
  have := (z 0).isLt; change (z 0).val < 1 at this
  show i.val + 1 * (z 0).val = i.val; omega

/-! ## Contents -/

/-- The blocks of the four arguments on device `c`, as its staging buffers hold them. -/
def xstg (c : Dev nD) : (cc0_stg0_0 : Ref sig .tc).ty.Contents (Elt F) :=
  (win0_0.blk (0 : Fin 1)).view.read (Elt F) ((s₀ m ρ).mem ((c : Thread nD τ).loc main_arg0))
/-- The router's matrix as staged. -/
def wstg (c : Dev nD) : (cc0_stg1_0 : Ref sig .tc).ty.Contents (Elt F) :=
  (win0_1.blk (0 : Fin 1)).view.read (Elt F) ((s₀ m ρ).mem ((c : Thread nD τ).loc main_arg1))
/-- The table as staged. -/
def istg (c : Dev nD) : (cc0_stg2_0 : Ref sig .tc).ty.Contents (Elt F) :=
  (win0_2.blk (0 : Fin 1)).view.read (Elt F) ((s₀ m ρ).mem ((c : Thread nD τ).loc main_arg2))
/-- The device's experts as staged. -/
def estg (c : Dev nD) : (cc0_stg3_0 : Ref sig .tc).ty.Contents (Elt F) :=
  (win0_3.blk (0 : Fin 1)).view.read (Elt F) ((s₀ m ρ).mem ((c : Thread nD τ).loc main_arg3))

/-- The device's number as the kernel computes it. -/
def devW (c : Dev nD) : BitVec 32 := Scalar.remsi (Scalar.divsi (Dev.word c) 1#32) 8#32

/-- A column of the routing table, and one of the two experts, as the kernel loads them. -/
def icol0 (idx : Vec F S512x2 .i32) : Vec F S512x1 .i32 :=
  iM.view.readAt (Elt F) (Rect.unit (s := S512x2) ![0, 0] S512x1.size inb_S512x2_S512x1_0_0).toLoadRect idx
/-- The table's second column. -/
def icol1 (idx : Vec F S512x2 .i32) : Vec F S512x1 .i32 :=
  iM.view.readAt (Elt F) (Rect.unit (s := S512x2) ![0, 1] S512x1.size inb_S512x2_S512x1_0_1).toLoadRect idx
/-- The first expert's matrix. -/
def exp0 (ew : Vec F S2x256x512 .bf16) : Vec F S1x256x512 .bf16 :=
  eM.view.readAt (Elt F) (Rect.unit (s := S2x256x512) ![0, 0, 0] S1x256x512.size inb_S2x256x512_S1x256x512_0_0_0).toLoadRect ew
/-- The second expert's matrix. -/
def exp1 (ew : Vec F S2x256x512 .bf16) : Vec F S1x256x512 .bf16 :=
  eM.view.readAt (Elt F) (Rect.unit (s := S2x256x512) ![1, 0, 0] S1x256x512.size inb_S2x256x512_S1x256x512_1_0_0).toLoadRect ew

/-- The device's partial sums over its two experts, all 512 rows. -/
def accOf (v2 : BitVec 32) (x : Vec F S512x256 .bf16) (w : Vec F S256x16 .bf16) (i0 i1 : Vec F S512x1 .i32) (e0 e1 : Vec F S1x256x512 .bf16) :
    FVec F S512x512 .bf16 :=
  k0_pay9 v2 (k0_pay1 x) (k0_pay2 x w) (k0_pay3 i0) (k0_pay4 i1) (iota .tc S512x16 32 [1] iota_S512x16_d1_w32) (k0_pay5 x w i0 i1) (k0_pay6 (F := F))
    (Scalar.addi (Scalar.muli v2 2#32) 0#32) (k0_pay7 v2 x w) (k0_pay8 v2) e0 e1

/-- Device `c`'s gated sum of its two experts' products, for all tokens. -/
def acc (c : Dev nD) : FVec F S512x512 .bf16 :=
  accOf (devW c) (xstg m ρ c) (wstg m ρ c) (icol0 (istg m ρ c)) (icol1 (istg m ρ c)) (exp0 (estg m ρ c)) (exp1 (estg m ρ c))

/-- The `i`-th block of 64 rows. -/
def slab (a : FVec F S512x512 .bf16) (i : Fin 8) : Vec F S1x64x512 .bf16 := match i with
  | 0 => k0_pay12 (extractStridedSlice S64x512 ![0, 0] a slices_S512x512_o0_0_S64x512)
  | 1 => k0_pay12 (extractStridedSlice S64x512 ![64, 0] a slices_S512x512_o64_0_S64x512)
  | 2 => k0_pay13 a
  | 3 => k0_pay14 a
  | 4 => k0_pay15 a
  | 5 => k0_pay16 a
  | 6 => k0_pay17 a
  | 7 => k0_pay18 a

/-- Device `c`'s send buffer. -/
abbrev aLoc (c : Dev nD) : Loc nD τ sig := (c : Thread nD τ).loc cc0_scratch0
/-- Device `c`'s receive buffer. -/
abbrev cLoc (c : Dev nD) : Loc nD τ sig := (c : Thread nD τ).loc cc0_scratch1

/-- The accumulator of device `c` once written, and its landing buffer once every copy has arrived. -/
def accAt (c : Dev nD) : Buf (Elt F) (aLoc c) := fun (y : S8x64x512.Idx) => slab (acc m ρ c) (y 0) (dropA y)
/-- What the receive buffer ends with: of each predecessor, its slab for this device. -/
def landed (c : Dev nD) : Buf (Elt F) (cLoc c) := fun (y : S7x64x512.Idx) => slab (acc m ρ (back c (y 0))) c (dropC y)

/-- The `i`-th slab of the send buffer, held. -/
def accPts (c : Dev nD) (i : Fin 8) (f : Buf (Elt F) (aLoc c)) : sProp 𝕄 := aLoc c ↦[accSet i]{fullShare} f
/-- The `j`-th slab of the receive buffer, held. -/
def comPts (c : Dev nD) (j : Fin 7) (f : Buf (Elt F) (cLoc c)) : sProp 𝕄 := cLoc c ↦[comSet j]{fullShare} f

omit [FloatOps F] in
instance accPts_storable (c : Dev nD) (i) (f) : BI.Storable (upEmb : UEmb _ 𝕄) (accPts (F := F) c i f) := by unfold accPts; infer_instance
omit [FloatOps F] in
instance comPts_storable (c : Dev nD) (j) (f) : BI.Storable (upEmb : UEmb _ 𝕄) (comPts (F := F) c j f) := by unfold comPts; infer_instance

/-! ## The schedule -/

/-- One landing slot as a memref, and the credit a copy into it brings. -/
abbrev slotC (off : Fin 3 → ℕ) (inb : ∀ a, off a + S1x64x512.size a ≤ S7x64x512.size a) : Memref sig .tc .vmem S64x512 .bf16 :=
  (cM.slice (Rect.unit (s := S7x64x512) off S1x64x512.size inb) (fun _ => rfl)).squeeze S64x512 squeezes_S1x64x512_S64x512
/-- A slab of the send buffer as the kernel names it. -/
abbrev slotA (off : Fin 3 → ℕ) (inb : ∀ a, off a + S1x64x512.size a ≤ S8x64x512.size a) : Memref sig .tc .vmem S64x512 .bf16 :=
  (aM.slice (Rect.unit (s := S8x64x512) off S1x64x512.size inb) (fun _ => rfl)).squeeze S64x512 squeezes_S1x64x512_S64x512
/-- What one copy of a slab pays its semaphores. -/
abbrev N : ℕ := (slotC ![0, 0, 0] (inbC 0)).view.dmaCredit
/-- A copy pays something. -/
theorem N_pos : 0 < N := View.dmaCredit_pos _ (by decide)

/-- What the `s`-th signal hands device `c`: the landing slot of the signalling device that `c` will write, and that the
    device's cell for it is at its first round. -/
def barPay (c : Dev nD) (s : Fin 7) : sProp 𝕄 := iprop((∃ f, comPts (back c s) (rv s) f) ∗ reached ER (recvCell (back c s) (rv s)) 0)
/-- What a receive semaphore hands over: its slab, landed. -/
def recvPay (c : Dev nD) (j : Fin 7) : sProp 𝕄 := comPts c j (landed m ρ c)
/-- What a send semaphore hands back: the slab that was lent to the copy. -/
def sendPay (c : Dev nD) (j : Fin 7) : sProp 𝕄 := accPts c (peer c j) (accAt m ρ c)

set_option backward.proofsInPublic true in
def sIx (q : DmaSem sig) : Fin 7 := ⟨((show Fin 19 from q).val - 5) % 7, Nat.mod_lt _ (by decide)⟩
set_option backward.proofsInPublic true in
def rIx (q : DmaSem sig) : Fin 7 := ⟨((show Fin 19 from q).val - 12) % 7, Nat.mod_lt _ (by decide)⟩
/-- Whether a copy semaphore is one of the kernel's own fourteen. -/
def isOwn (q : DmaSem sig) : Bool := decide (5 ≤ (show Fin 19 from q).val)
/-- Whether it is a receive semaphore. -/
def isRecv (q : DmaSem sig) : Bool := decide (12 ≤ (show Fin 19 from q).val)

/-- The number of the `j`-th send semaphore is `j`. -/
theorem sIx_sendS (j : Fin 7) : sIx (sendS j) = j := by revert j; decide
/-- The number of the `j`-th receive semaphore is `j`. -/
theorem rIx_recvS (j : Fin 7) : rIx (recvS j) = j := by revert j; decide
/-- A send semaphore is the kernel's own. -/
theorem isOwn_sendS (j : Fin 7) : isOwn (sendS j) = true := by revert j; decide
/-- A receive semaphore is the kernel's own. -/
theorem isOwn_recvS (j : Fin 7) : isOwn (recvS j) = true := by revert j; decide
/-- A send semaphore is no receive semaphore. -/
theorem isRecv_sendS (j : Fin 7) : isRecv (sendS j) = false := by revert j; decide
/-- A receive semaphore is one. -/
theorem isRecv_recvS (j : Fin 7) : isRecv (recvS j) = true := by revert j; decide

/-- Who pays a semaphore: seven peers the barrier, one copy each of the others. -/
def dutiesOf : SemLoc sig → Finset (Fin 7)
  | .reg _ => Finset.univ
  | .dma q => if isOwn q then {0} else ∅

/-- What a semaphore's payments hand over. -/
def payOf (c : Dev nD) : SemLoc sig → Fin 7 → sProp 𝕄
  | .reg _, d => barPay c d
  | .dma q, _ => if isRecv q then recvPay m ρ c (rIx q) else sendPay m ρ c (sIx q)

/-- One round: a barrier cell has seven duties of one unit, a copy's cell one duty of the copy's credit. -/
def rd : Rounds.Schedule (GSem nD τ sig) (Fin 7) 𝕄 where
  duties g r := if r = 0 ∧ g.1.2 = .tc then dutiesOf g.2 else ∅
  unitless _ := False
  amount g _ _ := match g.2 with | .reg _ => 1 | .dma _ => N
  payload g _ d := payOf m ρ g.1.1 g.2 d
  amount_pos g _ _ _ := by
    rcases g with ⟨t, _ | _⟩
    · exact Nat.one_pos
    · exact N_pos

/-- Every payment can be stored in an invariant. -/
instance rd_payload_storable (g : GSem nD τ sig) (r : ℕ) (d : Fin 7) :
    BI.Storable (upEmb : UEmb _ 𝕄) ((rd (F := F) m ρ).payload g r d) := by
  show BI.Storable upEmb (payOf m ρ g.1.1 g.2 d)
  rcases g with ⟨t, _ | q⟩
  · show BI.Storable upEmb (barPay (F := F) t.1 d); unfold barPay; infer_instance
  · show BI.Storable upEmb (if isRecv q then recvPay m ρ t.1 (rIx q) else sendPay m ρ t.1 (sIx q))
    unfold recvPay sendPay
    split <;> infer_instance

section Sched
variable (c : Dev nD) (j : Fin 7)

/-- The barrier has seven duties. -/
theorem duties_bar : (rd (F := F) m ρ).duties (barCell c) 0 = Finset.univ := by dsimp only [rd]; exact if_pos ⟨rfl, rfl⟩
/-- A send semaphore has one duty. -/
theorem duties_send : (rd (F := F) m ρ).duties (sendCell c j) 0 = {0} := by
  dsimp only [rd]; rw [if_pos ⟨rfl, rfl⟩]; dsimp only [dutiesOf]; rw [isOwn_sendS]; rfl
/-- A receive semaphore has one duty. -/
theorem duties_recv : (rd (F := F) m ρ).duties (recvCell c j) 0 = {0} := by
  dsimp only [rd]; rw [if_pos ⟨rfl, rfl⟩]; dsimp only [dutiesOf]; rw [isOwn_recvS]; rfl
/-- After its first round no semaphore has a duty. -/
theorem duties_later (g : GSem nD τ sig) : ∀ r, 1 ≤ r → (rd (F := F) m ρ).duties g r = ∅ :=
  fun r hr => by dsimp only [rd]; rw [if_neg fun h => by omega]

/-- Each signal pays the barrier one. -/
theorem amount_bar (d : Fin 7) : (rd (F := F) m ρ).amount (barCell c) 0 d = 1 := rfl
/-- A copy pays its send semaphore its credit. -/
theorem amount_send (d : Fin 7) : (rd (F := F) m ρ).amount (sendCell c j) 0 d = N := rfl
/-- A copy pays its receive semaphore its credit. -/
theorem amount_recv (d : Fin 7) : (rd (F := F) m ρ).amount (recvCell c j) 0 d = N := rfl

/-- The barrier awaits seven. -/
theorem expect_bar : (rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A send semaphore awaits one copy's credit. -/
theorem expect_send : (rd (F := F) m ρ).expect (sendCell c j) 0 = N := by
  unfold Schedule.expect Schedule.amountOf; rw [duties_send, Finset.sum_singleton, amount_send]
/-- A receive semaphore awaits one copy's credit. -/
theorem expect_recv : (rd (F := F) m ρ).expect (recvCell c j) 0 = N := by
  unfold Schedule.expect Schedule.amountOf; rw [duties_recv, Finset.sum_singleton, amount_recv]

/-- What a signal of the barrier hands over. -/
theorem payload_bar (d : Fin 7) : (rd (F := F) m ρ).payload (barCell c) 0 d = barPay c d := rfl
/-- What a send semaphore's payment hands back. -/
theorem payload_send (d : Fin 7) : (rd (F := F) m ρ).payload (sendCell c j) 0 d = sendPay m ρ c j := by
  show (if isRecv (sendS j) then recvPay m ρ c (rIx (sendS j)) else sendPay m ρ c (sIx (sendS j))) = _
  rw [isRecv_sendS, sIx_sendS]; rfl
/-- What a receive semaphore's payment hands over. -/
theorem payload_recv (d : Fin 7) : (rd (F := F) m ρ).payload (recvCell c j) 0 d = recvPay m ρ c j := by
  show (if isRecv (recvS j) then recvPay m ρ c (rIx (recvS j)) else sendPay m ρ c (sIx (recvS j))) = _
  rw [isRecv_recvS, rIx_recvS]; rfl

/-- All that the barrier's wait yields. -/
theorem rest_bar : bigSep ((rd (F := F) m ρ).duties (barCell c) 0 \ ∅) (fun d => (rd (F := F) m ρ).payload (barCell c) 0 d)
    = bigSep Finset.univ fun d => barPay c d := by
  rw [Finset.sdiff_empty, duties_bar]; rfl
/-- All that a send semaphore's wait yields. -/
theorem rest_send : bigSep ((rd (F := F) m ρ).duties (sendCell c j) 0 \ ∅) (fun d => (rd (F := F) m ρ).payload (sendCell c j) 0 d) = sendPay m ρ c j := by
  rw [Finset.sdiff_empty, duties_send, bigSep_singleton, payload_send]
/-- All that a receive semaphore's wait yields. -/
theorem rest_recv : bigSep ((rd (F := F) m ρ).duties (recvCell c j) 0 \ ∅) (fun d => (rd (F := F) m ρ).payload (recvCell c j) 0 d) = recvPay m ρ c j := by
  rw [Finset.sdiff_empty, duties_recv, bigSep_singleton, payload_recv]

end Sched

/-! ## What a device owes, and the levels -/

/-- The copies from the `k`-th on; then those with the signals from the `k`-th on. -/
def OS (c : Dev nD) (k : ℕ) : CellTallies nD τ sig Unit :=
  ∑ j ∈ Finset.univ.filter (fun j : Fin 7 => k ≤ j.val), tallyAt (recvCell (peer c j) j) () N
/-- What a device owes once `k` of its signals are sent: the other signals, and all its copies. -/
def OB (c : Dev nD) (k : ℕ) : CellTallies nD τ sig Unit :=
  OS c 0 + ∑ j ∈ Finset.univ.filter (fun j : Fin 7 => k ≤ j.val), tallyAt (barCell (peer c j)) () 1
/-- What a device owes at the start. -/
def O₀ (c : Dev nD) : CellTallies nD τ sig Unit := OB c 0

/-- The numbers from `j` on are `j` and those after it. -/
theorem filter_succ (j : Fin 7) : Finset.univ.filter (fun i : Fin 7 => j.val ≤ i.val) = insert j (Finset.univ.filter (fun i : Fin 7 => j.val + 1 ≤ i.val)) := by
  revert j; decide
/-- `j` is not after itself. -/
theorem filter_not_mem (j : Fin 7) : j ∉ Finset.univ.filter (fun i : Fin 7 => j.val + 1 ≤ i.val) := by revert j; decide
/-- The `j`-th copy pays one part of what is owed. -/
theorem OS_step (c : Dev nD) (j : Fin 7) : OS c j.val = OS c (j.val + 1) + tallyAt (recvCell (peer c j) j) () N := by
  unfold OS; rw [filter_succ, Finset.sum_insert (filter_not_mem j), add_comm]
/-- The `j`-th signal pays one part of what is owed. -/
theorem OB_step (c : Dev nD) (j : Fin 7) : OB c j.val = OB c (j.val + 1) + tallyAt (barCell (peer c j)) () 1 := by
  unfold OB; rw [filter_succ j, Finset.sum_insert (filter_not_mem j), add_assoc, add_comm (tallyAt _ _ _)]
/-- After seven copies nothing is owed. -/
theorem OS_end (c : Dev nD) : OS c 7 = 0 := by
  unfold OS; rw [show Finset.univ.filter (fun i : Fin 7 => 7 ≤ i.val) = ∅ by decide, Finset.sum_empty]
/-- After seven signals the copies are owed. -/
theorem OB_end (c : Dev nD) : OB c 7 = OS c 0 := by
  unfold OB; rw [show Finset.univ.filter (fun i : Fin 7 => 7 ≤ i.val) = ∅ by decide, Finset.sum_empty, add_zero]

/-- Where credits may be owed: on the devices' own threads. -/
def L (g : GSem nD τ sig) : Finset Unit := if g.1.2 = .tc then {()} else ∅
/-- The order of the waits: staging first, the barrier next, then the receive semaphores. -/
def lvOf : SemLoc sig → ℕ
  | .reg _ => 1
  | .dma q => if isRecv q then 2 else 0
/-- Barrier cells at 1, incoming copies at 2, all others at 0. -/
def lv (g : GSem nD τ sig) (_ : Unit) : ℕ := lvOf g.2

/-- No credit is owed on another thread. -/
theorem L_of_ne (g : GSem nD τ sig) (h : g.1.2 ≠ .tc) : L g = ∅ := if_neg h
/-- On a device's own thread credits may be owed. -/
theorem L_tc (c : Dev nD) (sm : SemLoc sig) : L ((c : Thread nD τ), sm) = {()} := if_pos rfl
/-- Receive semaphores come last. -/
theorem lv_recv (c : Dev nD) (j : Fin 7) : lv (recvCell c j) () = 2 := by dsimp only [lv, lvOf]; rw [isRecv_recvS]; rfl

/-- What a sum of tallies owes somewhere, one of them owes there. -/
theorem tally_sum_pos {S : Finset (Fin 7)} {f : Fin 7 → GSem nD τ sig} {n : ℕ} {g : GSem nD τ sig} {u : Unit}
    (h : 0 < (∑ j ∈ S, tallyAt (f j) () n : CellTallies nD τ sig Unit) g u) : ∃ j, g = f j := by
  by_contra hn
  have : (∑ j ∈ S, tallyAt (f j) () n : CellTallies nD τ sig Unit) g u = 0 := by
    rw [Finset.sum_apply, Finsupp.finset_sum_apply]
    exact Finset.sum_eq_zero fun j _ => by rw [tallyAt_apply, if_neg fun h' => hn ⟨j, h'.1⟩]
  rw [this] at h; exact Nat.lt_irrefl 0 h

/-- What is owed in the copying phase is owed to a peer's receive semaphore. -/
theorem OS_pos {c : Dev nD} {k : ℕ} {g : GSem nD τ sig} {u : Unit} (h : 0 < OS c k g u) : ∃ j, g = recvCell (peer c j) j := tally_sum_pos h
/-- What is owed in the signalling phase is owed to a peer's barrier or receive semaphore. -/
theorem OB_pos {c : Dev nD} {k : ℕ} {g : GSem nD τ sig} {u : Unit} (h : 0 < OB c k g u) :
    (∃ j, g = recvCell (peer c j) j) ∨ ∃ j, g = barCell (peer c j) := by
  unfold OB at h
  rw [Pi.add_apply, Finsupp.add_apply] at h
  rcases Nat.add_pos_iff_pos_or_pos.mp h with h | h
  · exact .inl (OS_pos h)
  · exact .inr (tally_sum_pos h)

/-- The staging copies may be waited for, whatever is owed then. -/
theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases OB_pos hg with ⟨j, rfl⟩ | ⟨j, rfl⟩ <;> exact Finset.mem_singleton_self _)
      (fun p hp => by rw [Finset.mem_singleton.mp hp]; dsimp only [lv, lvOf]; rw [hq]; exact Nat.le_refl 0)
      (fun g u hg => by
        rcases OB_pos hg with ⟨j, rfl⟩ | ⟨j, rfl⟩
        · rw [show lv (recvCell (peer c j) j) u = 2 from lv_recv _ _]; decide
        · exact Nat.one_pos)
  · rw [MayWait_zero]; iintro -; iempintro

/-- At its barrier wait a device owes its copies only. -/
theorem mayWait_bar (c : Dev nD) : (levAts L lv : sProp 𝕄) ⊢ MayWait (c : Thread nD τ) (.reg barS) () (OS c 0) :=
  MayOwe.of_cut (L := L) (lev := lv) 1 (fun p hp => by rw [Finset.mem_singleton.mp hp, L_tc]; exact Finset.mem_singleton_self _)
    (fun g u hg => by obtain ⟨j, rfl⟩ := OS_pos hg; exact Finset.mem_singleton_self _)
    (fun p hp => by rw [Finset.mem_singleton.mp hp]; exact Nat.le_refl 1)
    (fun g u hg => by obtain ⟨j, rfl⟩ := OS_pos hg; rw [show lv (recvCell (peer c j) j) u = 2 from lv_recv _ _]; decide)

/-! ## The closed forms of the printed device ids and offsets -/

/-- The barrier's first signal addresses the device's peer number 0. -/
theorem dev1_eq (c : Dev nD) : (⟨k0_dev1 c, k0_dev1_lt c⟩ : Dev nD) = peer c 0 := by revert c; decide +kernel
/-- The barrier's second signal addresses the device's peer number 1. -/
theorem dev2_eq (c : Dev nD) : (⟨k0_dev2 c, k0_dev2_lt c⟩ : Dev nD) = peer c 1 := by revert c; decide +kernel
/-- The barrier's third signal addresses the device's peer number 2. -/
theorem dev3_eq (c : Dev nD) : (⟨k0_dev3 c, k0_dev3_lt c⟩ : Dev nD) = peer c 2 := by revert c; decide +kernel
/-- The barrier's fourth signal addresses the device's peer number 3. -/
theorem dev4_eq (c : Dev nD) : (⟨k0_dev4 c, k0_dev4_lt c⟩ : Dev nD) = peer c 3 := by revert c; decide +kernel
/-- The barrier's fifth signal addresses the device's peer number 4. -/
theorem dev5_eq (c : Dev nD) : (⟨k0_dev5 c, k0_dev5_lt c⟩ : Dev nD) = peer c 4 := by revert c; decide +kernel
/-- The barrier's sixth signal addresses the device's peer number 5. -/
theorem dev6_eq (c : Dev nD) : (⟨k0_dev6 c, k0_dev6_lt c⟩ : Dev nD) = peer c 5 := by revert c; decide +kernel
/-- The barrier's seventh signal addresses the device's peer number 6. -/
theorem dev7_eq (c : Dev nD) : (⟨k0_dev7 c, k0_dev7_lt c⟩ : Dev nD) = peer c 6 := by revert c; decide +kernel
/-- The first copy addresses the device's peer number 0. -/
theorem dev8_eq (c : Dev nD) : (⟨k0_dev8 c, k0_dev8_lt c⟩ : Dev nD) = peer c 0 := by revert c; decide +kernel
/-- The second copy addresses the device's peer number 1. -/
theorem dev9_eq (c : Dev nD) : (⟨k0_dev9 c, k0_dev9_lt c⟩ : Dev nD) = peer c 1 := by revert c; decide +kernel
/-- The third copy addresses the device's peer number 2. -/
theorem dev10_eq (c : Dev nD) : (⟨k0_dev10 c, k0_dev10_lt c⟩ : Dev nD) = peer c 2 := by revert c; decide +kernel
/-- The fourth copy addresses the device's peer number 3. -/
theorem dev11_eq (c : Dev nD) : (⟨k0_dev11 c, k0_dev11_lt c⟩ : Dev nD) = peer c 3 := by revert c; decide +kernel
/-- The fifth copy addresses the device's peer number 4. -/
theorem dev12_eq (c : Dev nD) : (⟨k0_dev12 c, k0_dev12_lt c⟩ : Dev nD) = peer c 4 := by revert c; decide +kernel
/-- The sixth copy addresses the device's peer number 5. -/
theorem dev13_eq (c : Dev nD) : (⟨k0_dev13 c, k0_dev13_lt c⟩ : Dev nD) = peer c 5 := by revert c; decide +kernel
/-- The seventh copy addresses the device's peer number 6. -/
theorem dev14_eq (c : Dev nD) : (⟨k0_dev14 c, k0_dev14_lt c⟩ : Dev nD) = peer c 6 := by revert c; decide +kernel

/-- The `j`-th copy's source is the slab of the `j`-th peer. -/
theorem off1_eq (c : Dev nD) (j : Fin 7) : k0_off1 c (BitVec.ofNat 32 (1 + j.val)) = ![(peer c j).val, 0, 0] := by
  funext a; revert a; revert c j; decide +kernel
/-- The slab read at the end is the device's own. -/
theorem off2_eq (c : Dev nD) : k0_off2 c = ![c.val, 0, 0] := k0_off2_eq c

end Cert.Moe

end
-- ==== Proof.Steps.lean ====
/-
The mixture-of-experts kernel over eight devices: one rule per kind of step of its body — a signal, a copy started, the
wait for a copy arrived, the wait for a copy gone, a load from and a store into a slot of a scratch buffer.
-/
module

public import proofs.«01_k».proof.Proof.Proto

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A family split at a number -/

section Split

/-- The members from the `k`-th on, and those before it. -/
def From {n : ℕ} (Φ : Fin n → sProp 𝕄) (k : ℕ) : sProp 𝕄 := bigSep (Finset.univ.filter fun j : Fin n => k ≤ j.val) Φ
/-- A product over the numbers below `k`. -/
def Upto {n : ℕ} (Φ : Fin n → sProp 𝕄) (k : ℕ) : sProp 𝕄 := bigSep (Finset.univ.filter fun j : Fin n => j.val < k) Φ

/-- A product from `j` on is the `j`-th factor and the rest. -/
theorem From_step {n : ℕ} (Φ : Fin n → sProp 𝕄) (j : Fin n) : From Φ j.val = iprop(Φ j ∗ From Φ (j.val + 1)) := by
  unfold From
  refine Eq.trans ?_ (bigSep_insert (by simp))
  congr 1
  ext i
  simp only [Finset.mem_filter, Finset.mem_univ, true_and, Finset.mem_insert, Fin.ext_iff]
  omega
/-- A product up to `j + 1` is the `j`-th factor and those before. -/
theorem Upto_step {n : ℕ} (Φ : Fin n → sProp 𝕄) (j : Fin n) : Upto Φ (j.val + 1) = iprop(Φ j ∗ Upto Φ j.val) := by
  unfold Upto
  refine Eq.trans ?_ (bigSep_insert (by simp))
  congr 1
  ext i
  simp only [Finset.mem_filter, Finset.mem_univ, true_and, Finset.mem_insert, Fin.ext_iff]
  omega
/-- From 0 on is all. -/
theorem From_zero {n : ℕ} (Φ : Fin n → sProp 𝕄) : From Φ 0 = bigSep Finset.univ Φ := by
  unfold From; congr 1; ext i; simp
/-- Up to the end is all. -/
theorem Upto_all {n : ℕ} (Φ : Fin n → sProp 𝕄) : Upto Φ n = bigSep Finset.univ Φ := by
  unfold Upto; congr 1; ext i; simp
/-- Up to 0 is nothing. -/
theorem Upto_zero {n : ℕ} (Φ : Fin n → sProp 𝕄) : Upto Φ 0 = iprop(emp) := by
  unfold Upto; rw [show (Finset.univ.filter fun j : Fin n => j.val < 0) = ∅ by ext i; simp]; exact bigSep_empty
end Split

/-! ## The device's ghost state -/

/-- Every cell's invariant, and that every cell is at its first round. -/
def records (K : Dev nD × Kd → ℕ) : sProp 𝕄 :=
  iprop((bigSep Finset.univ fun ck : Dev nD × Kd => cellInv ER (rd m ρ) (K ck) (kcell ck))
    ∗ bigSep Finset.univ fun ck : Dev nD × Kd => reached ER (kcell ck) 0)

/-- The records can be shared. -/
instance records_persistent (K : Dev nD × Kd → ℕ) : BI.Persistent (records m ρ K) := by unfold records; infer_instance

/-- The records hold every semaphore's invariant. -/
theorem rec_inv (K : Dev nD × Kd → ℕ) (ck : Dev nD × Kd) : records m ρ K ⊢ cellInv ER (rd m ρ) (K ck) (kcell ck) := by
  have h : (bigSep Finset.univ fun ck : Dev nD × Kd => (cellInv ER (rd m ρ) (K ck) (kcell ck) : sProp 𝕄)) ⊢ cellInv ER (rd m ρ) (K ck) (kcell ck) :=
    bigSep_elim (Finset.mem_univ ck)
  unfold records; iintro ⟨#H, -⟩
  iapply h; iexact H
/-- The records say that every semaphore is in its first round. -/
theorem rec_reached (K : Dev nD × Kd → ℕ) (ck : Dev nD × Kd) : records m ρ K ⊢ reached ER (kcell ck) 0 := by
  have h : (bigSep Finset.univ fun ck : Dev nD × Kd => (reached ER (kcell ck) 0 : sProp 𝕄)) ⊢ reached ER (kcell ck) 0 :=
    bigSep_elim (Finset.mem_univ ck)
  unfold records; iintro ⟨-, #H⟩
  iapply h; iexact H

/-- What the `j`-th signal needs, the `j`-th copy needs and leaves, the `j`-th incoming copy's wait needs and leaves, and
    the same of the `j`-th outgoing one's. -/
def sigR (c : Dev nD) (j : Fin 7) : sProp 𝕄 := iprop(dutyTok ER (barCell (peer c j)) 0 j ∗ ∃ f, comPts c (rv j) f)
/-- What the `j`-th copy needs. -/
def cpyR (c : Dev nD) (j : Fin 7) : sProp 𝕄 :=
  iprop((dutyTok ER (sendCell c j) 0 0 ∗ dutyTok ER (recvCell (peer c j) j) 0 0)
    ∗ (∃ f, comPts (peer c j) j f) ∗ accPts c (peer c j) (accAt m ρ c))
/-- What it leaves: the credit to wait for it. -/
def cpyD (c : Dev nD) (j : Fin 7) : sProp 𝕄 := cred (tallyAt (sendCell c j) () N)
/-- What the wait for the `j`-th slab needs. -/
def rcvR (c : Dev nD) (j : Fin 7) : sProp 𝕄 := iprop(cred (tallyAt (recvCell c j) () N) ∗ atPos ER (recvCell c j) 0 ∅ 0)
/-- What it yields: the slab, landed, and the semaphore at zero. -/
def rcvD (c : Dev nD) (j : Fin 7) : sProp 𝕄 := iprop(comPts c j (landed m ρ c) ∗ semVal (recvCell c j) 0)
/-- What the wait for the `j`-th copy out needs. -/
def drnR (c : Dev nD) (j : Fin 7) : sProp 𝕄 := iprop(cred (tallyAt (sendCell c j) () N) ∗ atPos ER (sendCell c j) 0 ∅ 0)
/-- What it yields: the lent slab, and the semaphore at zero. -/
def drnD (c : Dev nD) (j : Fin 7) : sProp 𝕄 := iprop(accPts c (peer c j) (accAt m ρ c) ∗ semVal (sendCell c j) 0)

/-- Owing `O`, whatever waits have been recorded. -/
def owesE (c : Dev nD) (O : CellTallies nD τ sig Unit) : sProp 𝕄 := iprop(∃ W, owes (c : Thread nD τ) O W)

/-- The state after `k` signals. -/
def sigS (c : Dev nD) (k : ℕ) : sProp 𝕄 := iprop(owesE c (OB c k) ∗ From (sigR (F := F) c) k)
/-- The state after `k` copies are started. -/
def cpyS (c : Dev nD) (k : ℕ) : sProp 𝕄 := iprop(owesE c (OS c k) ∗ From (cpyR m ρ c) k ∗ Upto (cpyD (F := F) c) k)
/-- The state after `k` slabs have landed. -/
def rcvS (c : Dev nD) (k : ℕ) : sProp 𝕄 := iprop(owesE c 0 ∗ From (rcvR (F := F) c) k ∗ Upto (rcvD m ρ c) k)
/-- The state after `k` copies out have ended. -/
def drnS (c : Dev nD) (k : ℕ) : sProp 𝕄 := iprop(owesE c 0 ∗ From (drnR (F := F) c) k ∗ Upto (drnD m ρ c) k)

variable {α : Type} {Q : α → sProp (MT nD τ sig Unit (Elt F) ℕ UU ℕ)} {k : PUnit → Prog (TpuEff nD τ sig (Elt F) Λ₀ .tc) α}

/-- No loop has a variant. -/
abbrev 𝒱₀ : Variants := Variants.none

/-! ## The rules -/

/-- The `j`-th signal: a unit to the `j`-th peer's barrier, with the landing slot that peer will write. -/
theorem signal_step (K : Dev nD × Kd → ℕ) (c n : Dev nD) (j : Fin 7) (hn : n = peer c j) (sm : Sem sig) (hs : sm = barS) :
    iprop(records m ρ K ∗ sigS (F := F) c j.val)
      ⊢ iprop((sigS (F := F) c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (n, .tc) sm (1#32 : BitVec 32).toInt) k) Q) := by
  subst hn; subst hs
  unfold sigS owesE
  rw [From_step, OB_step]
  iintro ⟨#HR, ⟨%W, HO⟩, Hj, Hrest⟩ Hk
  unfold sigR
  icases Hj with ⟨Ht, Hf⟩
  iapply (Rounds.wp_signal 𝒱₀ ER (rd m ρ) (c : Thread nD τ) none (dst := (peer c j : Thread nD τ)) (κ := K (peer c j, .inl ()))
      (d := j) (by rw [duties_bar]; exact Finset.mem_univ _) ((amount_bar m ρ (peer c j) j).trans (by decide)) () (OB c (j.val + 1)) rfl)
    $$ [HO Ht Hf]
  · isplitr; · iapply (rec_inv m ρ K (peer c j, .inl ())); iexact HR
    isplitl [HO]; · iexact HO
    isplitl [Ht]; · iexact Ht
    isplitl [Hf]
    · rw [payload_bar]; unfold barPay; rw [back_peer]
      isplitl [Hf]; · iexact Hf
      iapply (rec_reached m ρ K (c, .inr (.inr (rv j)))); iexact HR
    · iapply (rec_reached m ρ K (peer c j, .inl ())); iexact HR
  iintro HO
  iapply Hk
  isplitl [HO]; · iexists W; iexact HO
  iexact Hrest

/-- The barrier wait: every peer's landing slot for this device comes with it. -/
theorem barrier_step (K : Dev nD × Kd → ℕ) (c : Dev nD) (sm : Sem sig) (hs : sm = barS) :
    iprop(records m ρ K ∗ levAts L lv ∗ sigS (F := F) c 7 ∗ cred (tallyAt (barCell c) () 7) ∗ atPos ER (barCell c) 0 ∅ 0)
      ⊢ iprop(((owesE c (OS c 0) ∗ semVal (barCell c) 0 ∗ bigSep Finset.univ fun j : Fin 7 => iprop(∃ f, comPts (F := F) (peer c j) j f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm (7#32 : BitVec 32).toInt) k) Q) := by
  subst hs
  unfold sigS owesE
  rw [OB_end]
  iintro ⟨#HR, #Hlev, ⟨⟨%W, HO⟩, -⟩, Hc, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := OS c 0) (W := W) (R := 0) (m := 0) (T := ∅)
      (by rw [expect_bar]; decide)) $$ [Hc HO Hat]
  · isplitr; · iapply (rec_inv m ρ K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (rd m ρ) (Set.mem_univ (K (c, .inl ()))) (fun h => h) (R := 0 + 1) (duties_later m ρ (barCell c))) $$ [Hat] with Hz
  · isplitr; · iapply (rec_inv m ρ K (c, .inl ())); iexact HR
    iexact Hat
  iapply Hk
  isplitl [HO]; · iexists _; iexact HO
  isplitl [Hz]; · iexact Hz
  iapply ((Entails.of_eq ((rest_bar m ρ c).trans (bigSep_univ_equiv rvEquiv _))).trans (bigSep_mono fun j _ => by
    show barPay (F := F) c (rv j) ⊢ _
    unfold barPay; rw [back_rv, rv_rv]; iintro ⟨H, -⟩; iexact H))
  iexact Hpay

/-! ### Slots under the views the program reaches them by -/

/-- The slab that the kernel names in the send buffer, as a set of elements. -/
theorem slotA_set (i : Fin 8) {off} {inb} (h : off = ![i.val, 0, 0]) : (slotA off inb).view.set = accSet i := by
  subst h
  show ((aM.view.slice (Rect.unit (s := S8x64x512) ![i.val, 0, 0] S1x64x512.size inb)).reshape S64x512 _).set = _
  rw [View.set_reshape]
  exact View.set_slice_whole _ _
/-- The slab that the kernel names in the receive buffer, as a set of elements. -/
theorem slotC_set (i : Fin 7) {off} {inb} (h : off = ![i.val, 0, 0]) : (slotC off inb).view.set = comSet i := by
  subst h
  show ((cM.view.slice (Rect.unit (s := S7x64x512) ![i.val, 0, 0] S1x64x512.size inb)).reshape S64x512 _).set = _
  rw [View.set_reshape]
  exact View.set_slice_whole _ _

/-- A read of the send buffer's `i`-th slab yields its rows. -/
theorem readA (c : Dev nD) (i : Fin 8) {off : Fin 3 → ℕ} {inb} (h : off = ![i.val, 0, 0]) :
    (aM.view.readAt (Elt F) (Rect.unit (s := S8x64x512) off S1x64x512.size inb).toLoadRect (accAt m ρ c) : Vec F S1x64x512 .bf16) = slab (acc m ρ c) i := by
  funext z
  show slab (acc m ρ c) (((Rect.unit (s := S8x64x512) off S1x64x512.size inb).emb z) 0) (dropA ((Rect.unit (s := S8x64x512) off S1x64x512.size inb).emb z)) = _
  rw [dropA_emb i off inb h, show ((Rect.unit (s := S8x64x512) off S1x64x512.size inb).emb z) 0 = i from Fin.ext (emb0_A i off inb h z)]
/-- A read of the receive buffer's `i`-th slab yields the predecessor's rows. -/
theorem readC (c : Dev nD) (i : Fin 7) {off : Fin 3 → ℕ} {inb} (h : off = ![i.val, 0, 0]) :
    (cM.view.readAt (Elt F) (Rect.unit (s := S7x64x512) off S1x64x512.size inb).toLoadRect (landed m ρ c) : Vec F S1x64x512 .bf16) = slab (acc m ρ (back c i)) c := by
  funext z
  show slab (acc m ρ (back c (((Rect.unit (s := S7x64x512) off S1x64x512.size inb).emb z) 0))) c (dropC ((Rect.unit (s := S7x64x512) off S1x64x512.size inb).emb z)) = _
  rw [dropC_emb i off inb h, show ((Rect.unit (s := S7x64x512) off S1x64x512.size inb).emb z) 0 = i from Fin.ext (emb0_C i off inb h z)]

/-- Storing block `i` into slot `i` leaves there what the written accumulator holds. -/
theorem writeA (c : Dev nD) (i : Fin 8) {off : Fin 3 → ℕ} {inb} (h : off = ![i.val, 0, 0]) (f : Buf (Elt F) (aLoc c)) :
    ∀ y ∈ accSet i, ((aM.access (Rect.unit (s := S8x64x512) off S1x64x512.size inb)).write (Elt F) f (slab (acc m ρ c) i) Finset.univ) y = accAt m ρ c y := by
  intro y hy
  obtain ⟨z, rfl⟩ : ∃ z : S1x64x512.Idx, (Rect.unit (s := S8x64x512) off S1x64x512.size inb).emb z = y := by
    subst h
    have hy' : y ∈ ((View.whole cc0_scratch0).slice (Rect.unit (s := S8x64x512) ![i.val, 0, 0] S1x64x512.size inb)).set :=
      (Finset.ext_iff.mp (View.set_slice_whole cc0_scratch0 _) y).mpr hy
    obtain ⟨z, -, e⟩ := Finset.mem_map.mp hy'
    exact ⟨z, e⟩
  refine ((aM.access (Rect.unit (s := S8x64x512) off S1x64x512.size inb)).write_emb_of_mem f (slab (acc m ρ c) i) (Finset.mem_univ z)).trans ?_
  show slab (acc m ρ c) i z = slab (acc m ρ c) (((Rect.unit (s := S8x64x512) off S1x64x512.size inb).emb z) 0) (dropA ((Rect.unit (s := S8x64x512) off S1x64x512.size inb).emb z))
  rw [dropA_emb i off inb h, show ((Rect.unit (s := S8x64x512) off S1x64x512.size inb).emb z) 0 = i from Fin.ext (emb0_A i off inb h z)]

/-- A copy of block `peer c j` into slot `j` of that peer leaves there what the peer's landing buffer is to hold. -/
theorem copyC (c : Dev nD) (j : Fin 7) {offS offD : Fin 3 → ℕ} {inbS inbD} (hS : offS = ![(peer c j).val, 0, 0]) (hD : offD = ![j.val, 0, 0])
    (f : Buf (Elt F) (cLoc (peer c j))) :
    ∀ y ∈ comSet j, ((slotC offD inbD).view.write (Elt F) f ((slotA offS inbS).view.read (Elt F) (accAt m ρ c)) Finset.univ) y = landed m ρ (peer c j) y := by
  intro y hy
  have hy' : y ∈ (slotC offD inbD).view.set := by rw [slotC_set j hD]; exact hy
  obtain ⟨x, -, rfl⟩ := Finset.mem_map.mp hy'
  refine ((slotC offD inbD).view.write_emb_of_mem f _ (Finset.mem_univ x)).trans ?_
  show accAt m ρ c ((Rect.unit (s := S8x64x512) offS S1x64x512.size inbS).emb (Shape.reshapeEquiv squeezes_S1x64x512_S64x512.numel_eq x))
    = landed m ρ (peer c j) ((Rect.unit (s := S7x64x512) offD S1x64x512.size inbD).emb (Shape.reshapeEquiv squeezes_S1x64x512_S64x512.numel_eq x))
  generalize Shape.reshapeEquiv squeezes_S1x64x512_S64x512.numel_eq x = z
  show slab (acc m ρ c) (((Rect.unit (s := S8x64x512) offS S1x64x512.size inbS).emb z) 0) (dropA ((Rect.unit (s := S8x64x512) offS S1x64x512.size inbS).emb z))
    = slab (acc m ρ (back (peer c j) (((Rect.unit (s := S7x64x512) offD S1x64x512.size inbD).emb z) 0))) (peer c j) (dropC ((Rect.unit (s := S7x64x512) offD S1x64x512.size inbD).emb z))
  rw [dropA_emb (peer c j) offS inbS hS, dropC_emb j offD inbD hD,
    show ((Rect.unit (s := S8x64x512) offS S1x64x512.size inbS).emb z) 0 = peer c j from Fin.ext (emb0_A (peer c j) offS inbS hS z),
    show ((Rect.unit (s := S7x64x512) offD S1x64x512.size inbD).emb z) 0 = j from Fin.ext (emb0_C j offD inbD hD z), back_peer]

/-- The `j`-th copy started: it takes the block and the peer's slot, and leaves the credit of its departure. -/
theorem copy_step (K : Dev nD × Kd → ℕ) (c n : Dev nD) (j : Fin 7) (hn : n = peer c j) {offS offD : Fin 3 → ℕ} {inbS inbD}
    (hS : offS = ![(peer c j).val, 0, 0]) (hD : offD = ![j.val, 0, 0]) (sS sR : DmaSem sig) (hsS : sS = sendS j) (hsR : sR = recvS j)
    {hsc : (slotC offD inbD : Memref sig (Dev.tc n : Thread nD τ).2.kind .vmem S64x512 .bf16).view.ref.isScScratch = false}
    {hsrc : (slotA offS inbS).view.WordExact} {hdst : (slotC offD inbD).view.WordExact}
    {hsem : DmaTarget.Typed .vmem (.dma sR) (.remote (Dev.tc n : Thread nD τ) (slotC offD inbD) (.dma sS) hsc)} :
    iprop(records m ρ K ∗ cpyS m ρ c j.val)
      ⊢ iprop((cpyS m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (slotA offS inbS) (.remote (Dev.tc n : Thread nD τ) (slotC offD inbD) (.dma sS) hsc) (.dma sR) hsrc hdst hsem) k) Q) := by
  subst hn; subst hsS; subst hsR
  unfold cpyS owesE
  rw [From_step, Upto_step, OS_step]
  iintro ⟨#HR, ⟨%W, HO⟩, ⟨Hj, Hrest⟩, Hdone⟩ Hk
  unfold cpyR
  icases Hj with ⟨⟨HtS, HtR⟩, ⟨%f, Hf⟩, Ha⟩
  iapply (Rounds.wp_send_pointsTo 𝒱₀ ER (rd m ρ) (c : Thread nD τ) none (c' := (peer c j : Thread nD τ)) (src := slotA offS inbS) (dst := slotC offD inbD)
      (κ₁ := K (c, .inr (.inl j))) (κ₂ := K (peer c j, .inr (.inr j)))
      (r₁ := 0) (r₂ := 0) (d₁ := 0) (d₂ := 0) (fs := accAt m ρ c) (fd := f) (q := fullShare)
      (by rw [duties_send]; exact Finset.mem_singleton_self _) (by rw [duties_recv]; exact Finset.mem_singleton_self _)
      () () N rfl (amount_send m ρ c j 0) (amount_recv m ρ (peer c j) j 0) (OS c (j.val + 1)) rfl (W := W)
      (by rw [payload_send]; unfold sendPay accPts; rw [slotA_set (peer c j) hS])
      (by rw [payload_recv]; unfold recvPay comPts; rw [slotC_set j hD]
          exact Entails.of_eq (pointsTo_congr (copyC m ρ c j hS hD f)))) $$ [HO HtS HtR Hf Ha]
  · isplitr; · iapply (rec_inv m ρ K (c, .inr (.inl j))); iexact HR
    isplitr; · iapply (rec_inv m ρ K (peer c j, .inr (.inr j))); iexact HR
    isplitl [Ha]; · unfold accPts; rw [slotA_set (peer c j) hS]; iexact Ha
    isplitl [Hf]; · unfold comPts; rw [slotC_set j hD]; iexact Hf
    isplitl [HO]; · iexact HO
    isplitl [HtS]; · iexact HtS
    isplitr; · iapply (rec_reached m ρ K (c, .inr (.inl j))); iexact HR
    isplitl [HtR]; · iexact HtR
    iapply (rec_reached m ρ K (peer c j, .inr (.inr j))); iexact HR
  iintro ⟨Hc, HO⟩
  iapply Hk
  isplitl [HO]; · iexists W; iexact HO
  isplitl [Hrest]; · iexact Hrest
  isplitl [Hc]; · unfold cpyD; iexact Hc
  iexact Hdone

/-- The wait for the `j`-th incoming copy: its landing slot comes with it, written, and its cell closes. -/
theorem recv_step (K : Dev nD × Kd → ℕ) (c : Dev nD) (j : Fin 7) {offS offD : Fin 3 → ℕ} {inbS inbD}
    (sm : DmaSem sig) (hs : sm = recvS j) {h1 : (slotA offS inbS).view.WordExact} {h2 : (slotC offD inbD).view.WordExact} :
    iprop(records m ρ K ∗ rcvS m ρ c j.val)
      ⊢ iprop((rcvS m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm (slotA offS inbS) (slotC offD inbD) h1 h2) k) Q) := by
  subst hs
  unfold rcvS owesE
  rw [From_step, Upto_step]
  iintro ⟨#HR, ⟨%W, HO⟩, ⟨Hj, Hrest⟩, Hdone⟩ Hk
  unfold rcvR
  icases Hj with ⟨Hc, Hat⟩
  iapply (Rounds.wp_wait_rest_token 𝒱₀ ER (rd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (rec_inv m ρ K (c, .inr (.inr j))); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, .inr (.inr j)))) (fun h => h) (R := 0 + 1) (duties_later m ρ (recvCell c j))) $$ [Hat] with Hz
  · isplitr; · iapply (rec_inv m ρ K (c, .inr (.inr j))); iexact HR
    iexact Hat
  iapply Hk
  isplitl [HO]; · iexists _; iexact HO
  isplitl [Hrest]; · iexact Hrest
  isplitl [Hpay Hz]
  · unfold rcvD
    isplitl [Hpay]; · iapply (Entails.of_eq ((rest_recv m ρ c j).trans (show recvPay m ρ c j = comPts c j (landed m ρ c) from rfl))); iexact Hpay
    iexact Hz
  iexact Hdone

/-- The wait for the `j`-th outgoing copy: the block it read comes back, and its cell closes. -/
theorem drain_step (K : Dev nD × Kd → ℕ) (c : Dev nD) (j : Fin 7) {offS offD : Fin 3 → ℕ} {inbS inbD}
    (sm : DmaSem sig) (hs : sm = sendS j) {h1 : (slotC offD inbD).view.WordExact} {h2 : (slotA offS inbS).view.WordExact} :
    iprop(records m ρ K ∗ drnS m ρ c j.val)
      ⊢ iprop((drnS m ρ c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm (slotC offD inbD) (slotA offS inbS) h1 h2) k) Q) := by
  subst hs
  unfold drnS owesE
  rw [From_step, Upto_step]
  iintro ⟨#HR, ⟨%W, HO⟩, ⟨Hj, Hrest⟩, Hdone⟩ Hk
  unfold drnR
  icases Hj with ⟨Hc, Hat⟩
  iapply (Rounds.wp_wait_rest_token 𝒱₀ ER (rd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (rec_inv m ρ K (c, .inr (.inl j))); iexact HR
    isplitl [Hc]; · iexact Hc
    isplitl [HO]; · iexact HO
    isplitr; · rw [MayWait_zero]; iempintro
    iexact Hat
  iintro ⟨HO, Hat, -, Hpay⟩
  imod (Rounds.cell_close ER (rd m ρ) (Set.mem_univ (K (c, .inr (.inl j)))) (fun h => h) (R := 0 + 1) (duties_later m ρ (sendCell c j))) $$ [Hat] with Hz
  · isplitr; · iapply (rec_inv m ρ K (c, .inr (.inl j))); iexact HR
    iexact Hat
  iapply Hk
  isplitl [HO]; · iexists _; iexact HO
  isplitl [Hrest]; · iexact Hrest
  isplitl [Hpay Hz]
  · unfold drnD
    isplitl [Hpay]; · iapply (Entails.of_eq ((rest_send m ρ c j).trans (show sendPay m ρ c j = accPts c (peer c j) (accAt m ρ c) from rfl))); iexact Hpay
    iexact Hz
  iexact Hdone

variable {kA : (S1x64x512.Idx → Elt F .bf16) → Prog (TpuEff nD τ sig (Elt F) Λ₀ .tc) α}

/-- A load from a slot of the accumulator, whatever it holds; -/
theorem loadA_any (c : Dev nD) (i : Fin 8) (f : Buf (Elt F) (aLoc c)) {off : Fin 3 → ℕ} {inb} (h : off = ![i.val, 0, 0])
    {hl : aM.view.LoadsAt (Rect.unit (s := S8x64x512) off S1x64x512.size inb).toLoadRect} :
    accPts c i f
      ⊢ iprop((accPts c i f -∗ wp frame (wpE (defs₀ (F := F)) 𝒱₀ (c : Thread nD τ) none) Set.univ
            (kA (aM.view.readAt (Elt F) (Rect.unit (s := S8x64x512) off S1x64x512.size inb).toLoadRect f)) Q)
          -∗ wp frame (wpE (defs₀ (F := F)) 𝒱₀ (c : Thread nD τ) none) Set.univ
            (.op (.load aM (Rect.unit (s := S8x64x512) off S1x64x512.size inb).toLoadRect hl) kA) Q) := by
  subst h
  unfold accPts
  exact wp_load_rect 𝒱₀ (c : Thread nD τ) none Set.univ (m := aM) (r := Rect.unit (s := S8x64x512) ![i.val, 0, 0] S1x64x512.size inb) (S := accSet i)
    (by rw [View.set_slice_whole]; exact Finset.Subset.refl _)

/-- once written; -/
theorem loadA (c : Dev nD) (i : Fin 8) {off : Fin 3 → ℕ} {inb} (h : off = ![i.val, 0, 0])
    {hl : aM.view.LoadsAt (Rect.unit (s := S8x64x512) off S1x64x512.size inb).toLoadRect} :
    accPts c i (accAt m ρ c)
      ⊢ iprop((accPts c i (accAt m ρ c) -∗ wp frame (wpE (defs₀ (F := F)) 𝒱₀ (c : Thread nD τ) none) Set.univ (kA (slab (acc m ρ c) i)) Q)
          -∗ wp frame (wpE (defs₀ (F := F)) 𝒱₀ (c : Thread nD τ) none) Set.univ
            (.op (.load aM (Rect.unit (s := S8x64x512) off S1x64x512.size inb).toLoadRect hl) kA) Q) := by
  rw [← readA m ρ c i (inb := inb) h]
  exact loadA_any c i _ h

/-- from a landing slot that has been written, the state of the incoming copies kept. -/
theorem loadC (c : Dev nD) (i : Fin 7) {off : Fin 3 → ℕ} {inb} (h : off = ![i.val, 0, 0])
    {hl : cM.view.LoadsAt (Rect.unit (s := S7x64x512) off S1x64x512.size inb).toLoadRect} :
    rcvS m ρ c (i.val + 1)
      ⊢ iprop((rcvS m ρ c (i.val + 1) -∗ wp frame (wpE (defs₀ (F := F)) 𝒱₀ (c : Thread nD τ) none) Set.univ (kA (slab (acc m ρ (back c i)) c)) Q)
          -∗ wp frame (wpE (defs₀ (F := F)) 𝒱₀ (c : Thread nD τ) none) Set.univ
            (.op (.load cM (Rect.unit (s := S7x64x512) off S1x64x512.size inb).toLoadRect hl) kA) Q) := by
  rw [← readC m ρ c i (inb := inb) h]
  subst h
  unfold rcvS
  rw [Upto_step]
  unfold rcvD comPts
  iintro ⟨HO, Hr, ⟨Hf, Hz⟩, Hd⟩ Hk
  iapply (wp_load_rect 𝒱₀ (c : Thread nD τ) none Set.univ (m := cM) (r := Rect.unit (s := S7x64x512) ![i.val, 0, 0] S1x64x512.size inb) (S := comSet i)
    (by rw [View.set_slice_whole]; exact Finset.Subset.refl _)) $$ Hf
  iintro Hf
  iapply Hk
  isplitl [HO]; · iexact HO
  isplitl [Hr]; · iexact Hr
  isplitl [Hf Hz]
  · isplitl [Hf]; · iexact Hf
    iexact Hz
  iexact Hd

/-- A store of block `i` into slot `i` of the accumulator. -/
theorem storeA (c : Dev nD) (i : Fin 8) (f : Buf (Elt F) (aLoc c)) {off : Fin 3 → ℕ} {inb} (h : off = ![i.val, 0, 0])
    {w : S1x64x512.Idx → Elt F .bf16} (hw : w = slab (acc m ρ c) i)
    {hx : (aM.access (Rect.unit (s := S8x64x512) off S1x64x512.size inb)).Stores Finset.univ} {hm} :
    accPts c i f
      ⊢ iprop((accPts c i (accAt m ρ c) -∗ wp frame (wpE (defs₀ (F := F)) 𝒱₀ (c : Thread nD τ) none) Set.univ (k ⟨⟩) Q)
          -∗ wp frame (wpE (defs₀ (F := F)) 𝒱₀ (c : Thread nD τ) none) Set.univ
            (.op (.store aM (Rect.unit (s := S8x64x512) off S1x64x512.size inb) w Finset.univ hx hm) k) Q) := by
  subst hw
  unfold accPts
  have hc : ((aLoc c ↦[accSet i]{fullShare} ((aM.access (Rect.unit (s := S8x64x512) off S1x64x512.size inb)).write (Elt F) f (slab (acc m ρ c) i) Finset.univ)) : sProp 𝕄)
      = (aLoc c ↦[accSet i]{fullShare} (accAt m ρ c)) := pointsTo_congr (writeA m ρ c i h f)
  rw [← hc]
  subst h
  exact wp_store 𝒱₀ (c : Thread nD τ) none Set.univ (m := aM) (r := Rect.unit (s := S8x64x512) ![i.val, 0, 0] S1x64x512.size inb) (S := accSet i)
    (show (aM.access _).set ⊆ _ by rw [View.set_slice_whole]; exact Finset.Subset.refl _)

end Cert.Moe

end
-- ==== Proof.Parts.lean ====
/-
The mixture-of-experts kernel over eight devices: each printed stretch of its body executed, from what it needs to what
it leaves and returns.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From one phase to the next -/

/-- The end of the copying phase: nothing is owed, and all seven copies' send credits are held. -/
theorem cpy_end (c : Dev nD) : cpyS m ρ c 7 ⊢ iprop(owesE c 0 ∗ Upto (cpyD (F := F) c) 7) := by
  unfold cpyS; rw [OS_end]
  iintro ⟨H1, -, H2⟩
  isplitl [H1]; · iexact H1
  iexact H2
/-- The start of the receiving phase. -/
theorem rcv_begin (c : Dev nD) : iprop(owesE c 0 ∗ bigSep Finset.univ (rcvR (F := F) c)) ⊢ rcvS m ρ c 0 := by
  unfold rcvS; rw [Upto_zero, From_zero]
  iintro ⟨H1, H2⟩
  isplitl [H1]; · iexact H1
  isplitl [H2]; · iexact H2
  iempintro
/-- The end of the receiving phase: all seven slabs have landed. -/
theorem rcv_end (c : Dev nD) : rcvS m ρ c 7 ⊢ iprop(owesE c 0 ∗ bigSep Finset.univ (rcvD m ρ c)) := by
  unfold rcvS
  iintro ⟨H1, -, H2⟩
  isplitl [H1]; · iexact H1
  iapply (Entails.of_eq (Upto_all (rcvD m ρ c))); iexact H2
/-- The start of the phase that waits for the copies out. -/
theorem drn_begin (c : Dev nD) : iprop(owesE c 0 ∗ Upto (cpyD (F := F) c) 7 ∗ bigSep Finset.univ fun j => atPos ER (sendCell c j) 0 ∅ 0) ⊢ drnS m ρ c 0 := by
  unfold drnS; rw [Upto_zero, From_zero]
  iintro ⟨H1, H2, H3⟩
  isplitl [H1]; · iexact H1
  isplitl [H2 H3]
  · iapply (Entails.of_eq (bigSep_sep' Finset.univ (cpyD (F := F) c) (fun j => atPos ER (sendCell c j) 0 ∅ 0)).symm)
    isplitl [H2]
    · iapply (Entails.of_eq (Upto_all (cpyD (F := F) c))); iexact H2
    · iexact H3
  iempintro
/-- Its end: all seven lent slabs are back. -/
theorem drn_end (c : Dev nD) : drnS m ρ c 7 ⊢ iprop(owesE c 0 ∗ bigSep Finset.univ (drnD m ρ c)) := by
  unfold drnS
  iintro ⟨H1, -, H2⟩
  isplitl [H1]; · iexact H1
  iapply (Entails.of_eq (Upto_all (drnD m ρ c))); iexact H2

/-! ## The accumulator slot by slot -/

/-- The slots from the `k`-th on at some contents, those before it written. -/
def accS (c : Dev nD) (k : ℕ) : sProp 𝕄 :=
  iprop(From (fun i : Fin 8 => iprop(∃ f, accPts (F := F) c i f)) k ∗ Upto (fun i : Fin 8 => accPts c i (accAt m ρ c)) k)

/-- Slot `i` read and then written. -/
theorem slot_step {α : Type} {Q : α → sProp 𝕄} {k : PUnit → Prog (TpuEff nD τ sig (Elt F) Λ₀ .tc) α} (c : Dev nD) (i : Fin 8) {off : Fin 3 → ℕ} {inb}
    (h : off = ![i.val, 0, 0]) {hl : aM.view.LoadsAt (Rect.unit (s := S8x64x512) off S1x64x512.size inb).toLoadRect}
    {w : S1x64x512.Idx → Elt F .bf16} (hw : w = slab (acc m ρ c) i)
    {hx : (aM.access (Rect.unit (s := S8x64x512) off S1x64x512.size inb)).Stores Finset.univ} {hm} :
    accS m ρ c i.val
      ⊢ iprop((accS m ρ c (i.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.load aM (Rect.unit (s := S8x64x512) off S1x64x512.size inb).toLoadRect hl)
            fun _ => .op (.store aM (Rect.unit (s := S8x64x512) off S1x64x512.size inb) w Finset.univ hx hm) k) Q) := by
  unfold accS
  rw [From_step, Upto_step]
  iintro ⟨⟨⟨%f, Hf⟩, Hr⟩, Hd⟩ Hk
  iapply (loadA_any c i f h) $$ Hf; iintro Hf
  iapply (storeA m ρ c i f h hw) $$ Hf; iintro Hf
  iapply Hk
  isplitl [Hr]; · iexact Hr
  isplitl [Hf]; · iexact Hf
  iexact Hd

/-! ## The arguments -/

/-- A whole buffer of the device, held with contents `X`. -/
abbrev whole (c : Dev nD) (b : Ref sig .tc) (X : b.ty.Contents (Elt F)) : sProp 𝕄 := ((c : Thread nD τ).loc b) ↦{fullShare} X

/-- The four arguments' staging buffers at their blocks. -/
def argS (c : Dev nD) : sProp 𝕄 :=
  iprop(whole c cc0_stg0_0 (xstg m ρ c) ∗ whole c cc0_stg1_0 (wstg m ρ c) ∗ whole c cc0_stg2_0 (istg m ρ c) ∗ whole c cc0_stg3_0 (estg m ρ c))

/-- The zero offset of two axes. -/
theorem hz2 : (![0, 0] : Fin 2 → Nat) = fun _ => 0 := funext fun a => by fin_cases a <;> rfl
/-- A load of the whole token block reads its contents. -/
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ f
/-- A load of the whole router block reads its contents. -/
theorem read_w (f : (cc0_stg1_0 : Ref sig .tc).ty.Contents (Elt F)) :
    wM.view.readAt (Elt F) (Rect.unit (s := S256x16) ![0, 0] S256x16.size inb_S256x16_S256x16_0_0).toLoadRect f = f :=
  Memref.readAt_unit_zero (Elt F) cc0_stg1_0 hz2 _ f
/-- A store of the whole output block leaves what was stored. -/
theorem write_o (f w : (cc0_stg4_0 : Ref sig .tc).ty.Contents (Elt F)) :
    ((oM.access (Rect.unit (s := S64x512) ![0, 0] S64x512.size inb_S64x512_S64x512_0_0)) : View sig .tc _ _ _).write (Elt F) f w Finset.univ = w :=
  Memref.write_access_unit_zero_univ (Elt F) cc0_stg4_0 hz2 _ f w

/-! ## The stretches -/

/-- The first stretch: two signals. -/
theorem part1 (K : Dev nD × Kd → ℕ) (c : Dev nD) (Kt : _ → sProp 𝕄) :
    iprop(records m ρ K ∗ sigS (F := F) c 0)
      ⊢ iprop((∀ r, ⌜r.1 = c ∧ r.2.1 = devW c ∧ r.2.2.1 = SemArray.scalar (sig.barrier 0 rfl)⌝ -∗ sigS (F := F) c 2 -∗ Kt r)
        -∗ wp frame (wpE (defs₀ (F := F)) 𝒱₀ (c : Thread nD τ) none) Set.univ (k0_part1
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3) Kt) := by
  rw [k0_part1_eq_skeleton]; unfold k0_part1_skel
  simp only [semSignalWord, semWaitWord, Prog.lift, Prog.bind_op, Prog.bind_ret, Prog.pure_eq_ret, wp_deviceId]
  iintro ⟨#HR, HS⟩ Hk
  iapply (signal_step m ρ K c _ 0 (dev1_eq c) _ rfl) $$ [HS]
  · isplitr; · iexact HR
    iexact HS
  iintro HS
  iapply (signal_step m ρ K c _ 1 (dev2_eq c) _ rfl) $$ [HS]
  · isplitr; · iexact HR
    iexact HS
  iintro HS
  rw [wp_ret]; imodintro
  iapply Hk
  · ipureintro; exact ⟨rfl, rfl, rfl⟩
  iexact HS

/-- Two more signals. -/
theorem part2 (K : Dev nD × Kd → ℕ) (c : Dev nD) (v2 a : BitVec 32) (b : BitVec 32) (d : BitVec 1) (Kt : _ → sProp 𝕄) :
    iprop(records m ρ K ∗ sigS (F := F) c 2)
      ⊢ iprop((∀ r, sigS (F := F) c 4 -∗ Kt r)
        -∗ wp frame (wpE (defs₀ (F := F)) 𝒱₀ (c : Thread nD τ) none) Set.univ (k0_part2
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2 (SemArray.scalar (sig.barrier 0 rfl)) a b d) Kt) := by
  rw [k0_part2_eq_skeleton]; unfold k0_part2_skel
  simp only [semSignalWord, semWaitWord, Prog.lift, Prog.bind_op, Prog.bind_ret, Prog.pure_eq_ret, wp_deviceId]
  iintro ⟨#HR, HS⟩ Hk
  iapply (signal_step m ρ K c _ 2 (dev3_eq c) _ rfl) $$ [HS]
  · isplitr; · iexact HR
    iexact HS
  iintro HS
  iapply (signal_step m ρ K c _ 3 (dev4_eq c) _ rfl) $$ [HS]
  · isplitr; · iexact HR
    iexact HS
  iintro HS
  rw [wp_ret]; imodintro
  iapply Hk; iexact HS

/-- The last three signals and the barrier wait. -/
theorem part3 (K : Dev nD × Kd → ℕ) (c : Dev nD) (v2 a : BitVec 32) (b : BitVec 1) (d : BitVec 32) (Kt : _ → sProp 𝕄) :
    iprop(records m ρ K ∗ levAts L lv ∗ sigS (F := F) c 4 ∗ cred (tallyAt (barCell c) () 7) ∗ atPos ER (barCell c) 0 ∅ 0)
      ⊢ iprop(((owesE c (OS c 0) ∗ semVal (barCell c) 0 ∗ bigSep Finset.univ fun j : Fin 7 => iprop(∃ f, comPts (F := F) (peer c j) j f)) -∗ Kt ⟨⟩)
        -∗ wp frame (wpE (defs₀ (F := F)) 𝒱₀ (c : Thread nD τ) none) Set.univ (k0_part3
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2 (SemArray.scalar (sig.barrier 0 rfl)) a b d) Kt) := by
  rw [k0_part3_eq_skeleton]; unfold k0_part3_skel
  simp only [semSignalWord, semWaitWord, Prog.lift, Prog.bind_op, Prog.bind_ret, Prog.pure_eq_ret, wp_deviceId]
  iintro ⟨#HR, #Hlev, HS, Hc, Hat⟩ Hk
  iapply (signal_step m ρ K c _ 4 (dev5_eq c) _ rfl) $$ [HS]
  · isplitr; · iexact HR
    iexact HS
  iintro HS
  iapply (signal_step m ρ K c _ 5 (dev6_eq c) _ rfl) $$ [HS]
  · isplitr; · iexact HR
    iexact HS
  iintro HS
  iapply (signal_step m ρ K c _ 6 (dev7_eq c) _ rfl) $$ [HS]
  · isplitr; · iexact HR
    iexact HS
  iintro HS
  iapply (barrier_step m ρ K c _ rfl) $$ [HS Hc Hat]
  · isplitr; · iexact HR
    isplitr; · iexact Hlev
    isplitl [HS]; · iexact HS
    isplitl [Hc] <;> iassumption
  iintro HS
  rw [wp_ret]; imodintro
  iapply Hk; iexact HS

/-- The loads of the tokens, the router and the two routing columns. -/
theorem part4 (K : Dev nD × Kd → ℕ) (c : Dev nD) (Kt : _ → sProp 𝕄) :
    iprop(records m ρ K ∗ argS m ρ c)
      ⊢ iprop((argS m ρ c -∗ Kt ⟨k0_pay1 (xstg m ρ c), k0_pay2 (xstg m ρ c) (wstg m ρ c), k0_pay3 (F := F) (icol0 (istg m ρ c)), k0_pay4 (F := F) (icol1 (istg m ρ c)),
            iota .tc S512x16 32 [1] iota_S512x16_d1_w32, k0_pay5 (xstg m ρ c) (wstg m ρ c) (icol0 (istg m ρ c)) (icol1 (istg m ρ c)), k0_pay6 (F := F),
            Scalar.addi (Scalar.muli (devW c) 2#32) 0#32, k0_pay7 (devW c) (xstg m ρ c) (wstg m ρ c), k0_pay8 (devW c)⟩)
        -∗ wp frame (wpE (defs₀ (F := F)) 𝒱₀ (c : Thread nD τ) none) Set.univ (k0_part4
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 (devW c)) Kt) := by
  rw [k0_part4_eq_skeleton]; unfold k0_part4_skel
  simp only [semSignalWord, semWaitWord, Prog.lift, Prog.bind_op, Prog.bind_ret, Prog.pure_eq_ret, wp_deviceId]
  unfold argS whole
  iintro ⟨#HR, Hx, Hw, Hi, He⟩ Hk
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := iM) (Finset.subset_univ _)) $$ Hi; iintro Hi
  rw [show iM.view.readAt (Elt F) _ (istg m ρ c) = icol0 (istg m ρ c) from rfl]
  iapply (wp_load 𝒱₀ (c : Thread nD τ) none Set.univ (m := iM) (Finset.subset_univ _)) $$ Hi; iintro Hi
  rw [show iM.view.readAt (Elt F) _ (istg m ρ c) = icol1 (istg m ρ c) from rfl]
  rw [wp_ret]; imodintro
  iapply Hk
  isplitl [Hx]; · iexact Hx
  isplitl [Hw]; · iexact Hw
  isplitl [Hi]; · iexact Hi
  iexact He
/-- The sum that the first slabs are cut from is the device's own sum. -/
theorem pay9_eq (c : Dev nD) : k0_pay9  (devW c) (k0_pay1 (xstg m ρ c)) (k0_pay2 (xstg m ρ c) (wstg m ρ c)) (k0_pay3 (F := F) (icol0 (istg m ρ c))) (k0_pay4 (F := F) (icol1 (istg m ρ c)))
        (iota .tc S512x16 32 [1] iota_S512x16_d1_w32) (k0_pay5 (xstg m ρ c) (wstg m ρ c) (icol0 (istg m ρ c)) (icol1 (istg m ρ c))) (k0_pay6 (F := F))
        (Scalar.addi (Scalar.muli (devW c) 2#32) 0#32) (k0_pay7 (devW c) (xstg m ρ c) (wstg m ρ c)) (k0_pay8 (devW c)) (exp0 (estg m ρ c)) (exp1 (estg m ρ c)) = acc m ρ c := rfl
/-- The second slab is cut from the same sum. -/
theorem pay11_eq (c : Dev nD) : k0_pay11  (devW c) (k0_pay1 (xstg m ρ c)) (k0_pay2 (xstg m ρ c) (wstg m ρ c)) (k0_pay3 (F := F) (icol0 (istg m ρ c))) (k0_pay4 (F := F) (icol1 (istg m ρ c)))
        (iota .tc S512x16 32 [1] iota_S512x16_d1_w32) (k0_pay5 (xstg m ρ c) (wstg m ρ c) (icol0 (istg m ρ c)) (icol1 (istg m ρ c))) (k0_pay6 (F := F))
        (Scalar.addi (Scalar.muli (devW c) 2#32) 0#32) (k0_pay7 (devW c) (xstg m ρ c) (wstg m ρ c)) (k0_pay8 (devW c)) (exp0 (estg m ρ c)) (exp1 (estg m ρ c)) = extractStridedSlice S64x512 ![64, 0] (acc m ρ c) slices_S512x512_o64_0_S64x512 := rfl

/-- The loads of the two experts, and the accumulator's first block. -/
theorem part5 (K : Dev nD × Kd → ℕ) (c : Dev nD) (Kt : _ → sProp 𝕄) :
    iprop(records m ρ K ∗ argS m ρ c ∗ accS m ρ c 0)
      ⊢ iprop(((argS m ρ c ∗ accS m ρ c 1) -∗ Kt ⟨acc m ρ c, extractStridedSlice S64x512 ![64, 0] (acc m ρ c) slices_S512x512_o64_0_S64x512⟩)
        -∗ wp frame (wpE (defs₀ (F := F)) 𝒱₀ (c : Thread nD τ) none) Set.univ (k0_part5
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 (devW c) (k0_pay1 (xstg m ρ c)) (k0_pay2 (xstg m ρ c) (wstg m ρ c)) (k0_pay3 (F := F) (icol0 (istg m ρ c))) (k0_pay4 (F := F) (icol1 (istg m ρ c)))
        (iota .tc S512x16 32 [1] iota_S512x16_d1_w32) (k0_pay5 (xstg m ρ c) (wstg m ρ c) (icol0 (istg m ρ c)) (icol1 (istg m ρ c))) (k0_pay6 (F := F))
        (Scalar.addi (Scalar.muli (devW c) 2#32) 0#32) (k0_pay7 (devW c) (xstg m ρ c) (wstg m ρ c)) (k0_pay8 (devW c))) Kt) := by
  rw [k0_part5_eq_skeleton]; unfold k0_part5_skel
  simp only [semSignalWord, semWaitWord, Prog.lift, Prog.bind_op, Prog.bind_ret, Prog.pure_eq_ret, wp_deviceId]
  unfold argS whole
  iintro ⟨#HR, ⟨Hx, Hw, Hi, He⟩, HS⟩ Hk
  iapply (wp_load 𝒱₀ (c : Thread nD τ) none Set.univ (m := eM) (Finset.subset_univ _)) $$ He; iintro He
  rw [show eM.view.readAt (Elt F) _ (estg m ρ c) = exp0 (estg m ρ c) from rfl]
  iapply (wp_load 𝒱₀ (c : Thread nD τ) none Set.univ (m := eM) (Finset.subset_univ _)) $$ He; iintro He
  rw [show eM.view.readAt (Elt F) _ (estg m ρ c) = exp1 (estg m ρ c) from rfl]
  iapply (slot_step m ρ c 0 rfl (show _ = slab (acc m ρ c) 0 from rfl)) $$ [HS]
  · iexact HS
  iintro HS
  rw [wp_ret]; imodintro
  rw [pay9_eq, pay11_eq]
  iapply Hk
  isplitr [HS]
  · isplitl [Hx]; · iexact Hx
    isplitl [Hw]; · iexact Hw
    isplitl [Hi]; · iexact Hi
    iexact He
  iexact HS

/-- The accumulator's other seven blocks. -/
theorem part6 (K : Dev nD × Kd → ℕ) (c : Dev nD) (v2 : BitVec 32) (Kt : _ → sProp 𝕄) :
    iprop(records m ρ K ∗ accS m ρ c 1)
      ⊢ iprop((∀ r, accS m ρ c 8 -∗ Kt r)
        -∗ wp frame (wpE (defs₀ (F := F)) 𝒱₀ (c : Thread nD τ) none) Set.univ (k0_part6
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 v2 (acc m ρ c) (extractStridedSlice S64x512 ![64, 0] (acc m ρ c) slices_S512x512_o64_0_S64x512)) Kt) := by
  rw [k0_part6_eq_skeleton]; unfold k0_part6_skel
  simp only [semSignalWord, semWaitWord, Prog.lift, Prog.bind_op, Prog.bind_ret, Prog.pure_eq_ret, wp_deviceId]
  iintro ⟨#HR, HS⟩ Hk
  iapply (slot_step m ρ c 1 rfl (show _ = slab (acc m ρ c) 1 from rfl)) $$ [HS]
  · iexact HS
  iintro HS
  iapply (slot_step m ρ c 2 rfl (show _ = slab (acc m ρ c) 2 from rfl)) $$ [HS]
  · iexact HS
  iintro HS
  iapply (slot_step m ρ c 3 rfl (show _ = slab (acc m ρ c) 3 from rfl)) $$ [HS]
  · iexact HS
  iintro HS
  iapply (slot_step m ρ c 4 rfl (show _ = slab (acc m ρ c) 4 from rfl)) $$ [HS]
  · iexact HS
  iintro HS
  iapply (slot_step m ρ c 5 rfl (show _ = slab (acc m ρ c) 5 from rfl)) $$ [HS]
  · iexact HS
  iintro HS
  iapply (slot_step m ρ c 6 rfl (show _ = slab (acc m ρ c) 6 from rfl)) $$ [HS]
  · iexact HS
  iintro HS
  iapply (slot_step m ρ c 7 rfl (show _ = slab (acc m ρ c) 7 from rfl)) $$ [HS]
  · iexact HS
  iintro HS
  rw [wp_ret]; imodintro
  iapply Hk; iexact HS

/-- The first copy. -/
theorem part7 (K : Dev nD × Kd → ℕ) (c : Dev nD) (v2 a b : BitVec 32) (d : BitVec 1) (e : BitVec 32) (Kt : _ → sProp 𝕄) :
    iprop(records m ρ K ∗ cpyS m ρ c 0)
      ⊢ iprop((∀ r, cpyS m ρ c 1 -∗ Kt r)
        -∗ wp frame (wpE (defs₀ (F := F)) 𝒱₀ (c : Thread nD τ) none) Set.univ (k0_part7
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2 a b d e) Kt) := by
  rw [k0_part7_eq_skeleton]; unfold k0_part7_skel
  simp only [semSignalWord, semWaitWord, Prog.lift, Prog.bind_op, Prog.bind_ret, Prog.pure_eq_ret, wp_deviceId]
  iintro ⟨#HR, HS⟩ Hk
  iapply (copy_step m ρ K c _ 0 (dev8_eq c) (off1_eq c 0) rfl _ _ (by decide) (by decide)) $$ [HS]
  · isplitr; · iexact HR
    iexact HS
  iintro HS
  rw [wp_ret]; imodintro
  iapply Hk; iexact HS

/-- The second and the third copy. -/
theorem part8 (K : Dev nD × Kd → ℕ) (c : Dev nD) (v2 : BitVec 32) (Kt : _ → sProp 𝕄) :
    iprop(records m ρ K ∗ cpyS m ρ c 1)
      ⊢ iprop((∀ r, cpyS m ρ c 3 -∗ Kt r)
        -∗ wp frame (wpE (defs₀ (F := F)) 𝒱₀ (c : Thread nD τ) none) Set.univ (k0_part8
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2) Kt) := by
  rw [k0_part8_eq_skeleton]; unfold k0_part8_skel
  simp only [semSignalWord, semWaitWord, Prog.lift, Prog.bind_op, Prog.bind_ret, Prog.pure_eq_ret, wp_deviceId]
  iintro ⟨#HR, HS⟩ Hk
  iapply (copy_step m ρ K c _ 1 (dev9_eq c) (off1_eq c 1) rfl _ _ (by decide) (by decide)) $$ [HS]
  · isplitr; · iexact HR
    iexact HS
  iintro HS
  iapply (copy_step m ρ K c _ 2 (dev10_eq c) (off1_eq c 2) rfl _ _ (by decide) (by decide)) $$ [HS]
  · isplitr; · iexact HR
    iexact HS
  iintro HS
  rw [wp_ret]; imodintro
  iapply Hk; iexact HS

/-- The fourth copy. -/
theorem part9 (K : Dev nD × Kd → ℕ) (c : Dev nD) (v2 a b : BitVec 32) (d e : BitVec 1) (Kt : _ → sProp 𝕄) :
    iprop(records m ρ K ∗ cpyS m ρ c 3)
      ⊢ iprop((∀ r, cpyS m ρ c 4 -∗ Kt r)
        -∗ wp frame (wpE (defs₀ (F := F)) 𝒱₀ (c : Thread nD τ) none) Set.univ (k0_part9
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2 a b d e) Kt) := by
  rw [k0_part9_eq_skeleton]; unfold k0_part9_skel
  simp only [semSignalWord, semWaitWord, Prog.lift, Prog.bind_op, Prog.bind_ret, Prog.pure_eq_ret, wp_deviceId]
  iintro ⟨#HR, HS⟩ Hk
  iapply (copy_step m ρ K c _ 3 (dev11_eq c) (off1_eq c 3) rfl _ _ (by decide) (by decide)) $$ [HS]
  · isplitr; · iexact HR
    iexact HS
  iintro HS
  rw [wp_ret]; imodintro
  iapply Hk; iexact HS

/-- The fifth and the sixth copy. -/
theorem part10 (K : Dev nD × Kd → ℕ) (c : Dev nD) (v2 : BitVec 32) (Kt : _ → sProp 𝕄) :
    iprop(records m ρ K ∗ cpyS m ρ c 4)
      ⊢ iprop((∀ r, cpyS m ρ c 6 -∗ Kt r)
        -∗ wp frame (wpE (defs₀ (F := F)) 𝒱₀ (c : Thread nD τ) none) Set.univ (k0_part10
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2) Kt) := by
  rw [k0_part10_eq_skeleton]; unfold k0_part10_skel
  simp only [semSignalWord, semWaitWord, Prog.lift, Prog.bind_op, Prog.bind_ret, Prog.pure_eq_ret, wp_deviceId]
  iintro ⟨#HR, HS⟩ Hk
  iapply (copy_step m ρ K c _ 4 (dev12_eq c) (off1_eq c 4) rfl _ _ (by decide) (by decide)) $$ [HS]
  · isplitr; · iexact HR
    iexact HS
  iintro HS
  iapply (copy_step m ρ K c _ 5 (dev13_eq c) (off1_eq c 5) rfl _ _ (by decide) (by decide)) $$ [HS]
  · isplitr; · iexact HR
    iexact HS
  iintro HS
  rw [wp_ret]; imodintro
  iapply Hk; iexact HS

/-- The last copy, the device's own block, and the first incoming copy. -/
theorem part11 (K : Dev nD × Kd → ℕ) (c : Dev nD) (v2 a b d : BitVec 32) (Kt : _ → sProp 𝕄) :
    iprop(records m ρ K ∗ cpyS m ρ c 6 ∗ accPts c c (accAt m ρ c) ∗ bigSep Finset.univ (rcvR (F := F) c))
      ⊢ iprop(((Upto (cpyD (F := F) c) 7 ∗ accPts c c (accAt m ρ c) ∗ rcvS m ρ c 1) -∗ Kt (k0_pay19 (slab (acc m ρ c) c) (slab (acc m ρ (back c 0)) c)))
        -∗ wp frame (wpE (defs₀ (F := F)) 𝒱₀ (c : Thread nD τ) none) Set.univ (k0_part11
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c v2 a b d) Kt) := by
  rw [k0_part11_eq_skeleton]; unfold k0_part11_skel
  simp only [semSignalWord, semWaitWord, Prog.lift, Prog.bind_op, Prog.bind_ret, Prog.pure_eq_ret, wp_deviceId]
  iintro ⟨#HR, HS, Ha, Hv⟩ Hk
  iapply (copy_step m ρ K c _ 6 (dev14_eq c) (off1_eq c 6) rfl _ _ (by decide) (by decide)) $$ [HS]
  · isplitr; · iexact HR
    iexact HS
  iintro HS
  ihave HS := (cpy_end m ρ c) $$ [HS]
  · iexact HS
  icases HS with ⟨HO, Hd⟩
  iapply (loadA m ρ c c (off2_eq c)) $$ Ha; iintro Ha
  ihave HS := (rcv_begin m ρ c) $$ [HO Hv]
  · isplitl [HO] <;> iassumption
  iapply (recv_step m ρ K c 0 _ (by decide)) $$ [HS]
  · isplitr; · iexact HR
    iexact HS
  iintro HS
  iapply (loadC m ρ c 0 rfl) $$ [HS]
  · iexact HS
  iintro HS
  rw [wp_ret]; imodintro
  iapply Hk
  isplitl [Hd]; · iexact Hd
  isplitl [Ha]; · iexact Ha
  iexact HS

/-- The second to the fourth incoming copy. -/
theorem part12 (K : Dev nD × Kd → ℕ) (c : Dev nD) (a b : BitVec 32) (v : FVec F S64x512 .f32) (Kt : _ → sProp 𝕄) :
    iprop(records m ρ K ∗ rcvS m ρ c 1)
      ⊢ iprop((rcvS m ρ c 4 -∗ Kt (k0_pay20 v (slab (acc m ρ (back c 1)) c) (slab (acc m ρ (back c 2)) c)))
        -∗ wp frame (wpE (defs₀ (F := F)) 𝒱₀ (c : Thread nD τ) none) Set.univ (k0_part12
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c a b v) Kt) := by
  rw [k0_part12_eq_skeleton]; unfold k0_part12_skel
  simp only [semSignalWord, semWaitWord, Prog.lift, Prog.bind_op, Prog.bind_ret, Prog.pure_eq_ret, wp_deviceId]
  iintro ⟨#HR, HS⟩ Hk
  iapply (recv_step m ρ K c 1 _ (by decide)) $$ [HS]
  · isplitr; · iexact HR
    iexact HS
  iintro HS
  iapply (loadC m ρ c 1 rfl) $$ [HS]
  · iexact HS
  iintro HS
  iapply (recv_step m ρ K c 2 _ (by decide)) $$ [HS]
  · isplitr; · iexact HR
    iexact HS
  iintro HS
  iapply (loadC m ρ c 2 rfl) $$ [HS]
  · iexact HS
  iintro HS
  iapply (recv_step m ρ K c 3 _ (by decide)) $$ [HS]
  · isplitr; · iexact HR
    iexact HS
  iintro HS
  rw [wp_ret]; imodintro
  iapply Hk; iexact HS

/-- The fifth and the sixth incoming copy. -/
theorem part13 (K : Dev nD × Kd → ℕ) (c : Dev nD) (a b : BitVec 32) (v : FVec F S64x512 .f32) (Kt : _ → sProp 𝕄) :
    iprop(records m ρ K ∗ rcvS m ρ c 4)
      ⊢ iprop((rcvS m ρ c 6 -∗ Kt ⟨k0_pay21 v (slab (acc m ρ (back c 3)) c) (slab (acc m ρ (back c 4)) c) (slab (acc m ρ (back c 5)) c), 1#32⟩)
        -∗ wp frame (wpE (defs₀ (F := F)) 𝒱₀ (c : Thread nD τ) none) Set.univ (k0_part13
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c a b v) Kt) := by
  rw [k0_part13_eq_skeleton]; unfold k0_part13_skel
  simp only [semSignalWord, semWaitWord, Prog.lift, Prog.bind_op, Prog.bind_ret, Prog.pure_eq_ret, wp_deviceId]
  iintro ⟨#HR, HS⟩ Hk
  iapply (loadC m ρ c 3 rfl) $$ [HS]
  · iexact HS
  iintro HS
  iapply (recv_step m ρ K c 4 _ (by decide)) $$ [HS]
  · isplitr; · iexact HR
    iexact HS
  iintro HS
  iapply (loadC m ρ c 4 rfl) $$ [HS]
  · iexact HS
  iintro HS
  iapply (recv_step m ρ K c 5 _ (by decide)) $$ [HS]
  · isplitr; · iexact HR
    iexact HS
  iintro HS
  iapply (loadC m ρ c 5 rfl) $$ [HS]
  · iexact HS
  iintro HS
  rw [wp_ret]; imodintro
  iapply Hk; iexact HS

/-- The last incoming copy, and the first two outgoing ones gone. -/
theorem part14 (K : Dev nD × Kd → ℕ) (c : Dev nD) (a : BitVec 32) (v : FVec F S64x512 .f32) (b : BitVec 32) (Kt : _ → sProp 𝕄) :
    iprop(records m ρ K ∗ rcvS m ρ c 6 ∗ Upto (cpyD (F := F) c) 7 ∗ bigSep Finset.univ fun j => atPos ER (sendCell c j) 0 ∅ 0)
      ⊢ iprop(((bigSep Finset.univ (rcvD m ρ c) ∗ drnS m ρ c 2) -∗ Kt (k0_pay22 v (slab (acc m ρ (back c 6)) c)))
        -∗ wp frame (wpE (defs₀ (F := F)) 𝒱₀ (c : Thread nD τ) none) Set.univ (k0_part14
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c a v b) Kt) := by
  rw [k0_part14_eq_skeleton]; unfold k0_part14_skel
  simp only [semSignalWord, semWaitWord, Prog.lift, Prog.bind_op, Prog.bind_ret, Prog.pure_eq_ret, wp_deviceId]
  iintro ⟨#HR, HS, Hd, Hat⟩ Hk
  iapply (recv_step m ρ K c 6 _ (by decide)) $$ [HS]
  · isplitr; · iexact HR
    iexact HS
  iintro HS
  iapply (loadC m ρ c 6 rfl) $$ [HS]
  · iexact HS
  iintro HS
  ihave HS := (rcv_end m ρ c) $$ [HS]
  · iexact HS
  icases HS with ⟨HO, Hv⟩
  ihave HS := (drn_begin m ρ c) $$ [HO Hd Hat]
  · isplitl [HO]; · iexact HO
    isplitl [Hd] <;> iassumption
  iapply (drain_step m ρ K c 0 _ (by decide)) $$ [HS]
  · isplitr; · iexact HR
    iexact HS
  iintro HS
  iapply (drain_step m ρ K c 1 _ (by decide)) $$ [HS]
  · isplitr; · iexact HR
    iexact HS
  iintro HS
  rw [wp_ret]; imodintro
  iapply Hk
  isplitl [Hv]; · iexact Hv
  iexact HS

/-- Four more outgoing copies gone. -/
theorem part15 (K : Dev nD × Kd → ℕ) (c : Dev nD) (Kt : _ → sProp 𝕄) :
    iprop(records m ρ K ∗ drnS m ρ c 2)
      ⊢ iprop((drnS m ρ c 6 -∗ Kt ⟨⟩)
        -∗ wp frame (wpE (defs₀ (F := F)) 𝒱₀ (c : Thread nD τ) none) Set.univ (k0_part15
        (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3 c) Kt) := by
  rw [k0_part15_eq_skeleton]; unfold k0_part15_skel
  simp only [semSignalWord, semWaitWord, Prog.lift, Prog.bind_op, Prog.bind_ret, Prog.pure_eq_ret, wp_deviceId]
  iintro ⟨#HR, HS⟩ Hk
  iapply (drain_step m ρ K c 2 _ (by decide)) $$ [HS]
  · isplitr; · iexact HR
    iexact HS
  iintro HS
  iapply (drain_step m ρ K c 3 _ (by decide)) $$ [HS]
  · isplitr; · iexact HR
    iexact HS
  iintro HS
  iapply (drain_step m ρ K c 4 _ (by decide)) $$ [HS]
  · isplitr; · iexact HR
    iexact HS
  iintro HS
  iapply (drain_step m ρ K c 5 _ (by decide)) $$ [HS]
  · isplitr; · iexact HR
    iexact HS
  iintro HS
  rw [wp_ret]; imodintro
  iapply Hk; iexact HS

end Cert.Moe

end
-- ==== Proof.Body.lean ====
/-
The mixture-of-experts kernel over eight devices: its whole body executed, from what a device holds at its start to what
it leaves, and the pipeline's obligation on the body.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts and ends with -/

/-- The positions of the device's own cells, and the tokens of the duties it pays. -/
def payToks (c : Dev nD) : sProp 𝕄 :=
  iprop((bigSep Finset.univ fun j : Fin 7 => dutyTok ER (barCell (peer c j)) 0 j)
    ∗ (bigSep Finset.univ fun j : Fin 7 => dutyTok ER (sendCell c j) 0 0)
    ∗ bigSep Finset.univ fun j : Fin 7 => dutyTok ER (recvCell (peer c j) j) 0 0)
/-- What one device holds alone at the start: its share of the protocol's positions and tokens. -/
def linear (c : Dev nD) : sProp 𝕄 :=
  iprop((atPos ER (barCell c) 0 ∅ 0 ∗ (bigSep Finset.univ fun j : Fin 7 => atPos ER (sendCell c j) 0 ∅ 0)
      ∗ bigSep Finset.univ fun j : Fin 7 => atPos ER (recvCell c j) 0 ∅ 0) ∗ payToks c)

/-- What a device has at the start besides its buffers: the shared records and what it holds alone. -/
def start (c : Dev nD) : sProp 𝕄 :=
  iprop((∃ K, records m ρ K ∗ linear c) ∗ cred (tallyAt (barCell c) () 7)
    ∗ (bigSep Finset.univ fun j : Fin 7 => cred (tallyAt (recvCell c j) () N)) ∗ levAts L lv)
/-- The body's resources before the one step of the grid. -/
def Φ₀ (c : Dev nD) : sProp 𝕄 :=
  iprop(start m ρ c ∗ (∃ f : Buf (Elt F) (aLoc c), aLoc c ↦{fullShare} f) ∗ ∃ f : Buf (Elt F) (cLoc c), cLoc c ↦{fullShare} f)
/-- The body's resources after it. -/
def Φ₁ (c : Dev nD) : sProp 𝕄 :=
  iprop(((∃ f : Buf (Elt F) (aLoc c), aLoc c ↦{fullShare} f) ∗ ∃ f : Buf (Elt F) (cLoc c), cLoc c ↦{fullShare} f)
    ∗ ((bigSep Finset.univ fun j : Fin 7 => semVal (sendCell c j) 0) ∗ bigSep Finset.univ fun j : Fin 7 => semVal (recvCell c j) 0)
    ∗ semVal (barCell c) 0)

/-- The result block of device `c`: its own partial sums and the seven that arrive, added in order. -/
def outAt (c : Dev nD) : (cc0_stg4_0 : Ref sig .tc).ty.Contents (Elt F) :=
  k0_pay22 (k0_pay21 (k0_pay20 (k0_pay19 (slab (acc m ρ c) c) (slab (acc m ρ (back c 0)) c)) (slab (acc m ρ (back c 1)) c) (slab (acc m ρ (back c 2)) c))
    (slab (acc m ρ (back c 3)) c) (slab (acc m ρ (back c 4)) c) (slab (acc m ρ (back c 5)) c)) (slab (acc m ρ (back c 6)) c)

/-- The contents of the windows' buffers before and after the step: four inputs kept, the output the device's result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => istg m ρ c
    | ⟨3, _⟩ => estg m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A whole staging buffer held is the same as its points-to. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## From the whole buffers to the phases, and back -/

/-- A device and its seven peers are all eight devices. -/
theorem peers_cover (c : Dev nD) : (Finset.univ : Finset (Fin 8)) = insert (c : Fin 8) (Finset.univ.map ⟨fun j : Fin 7 => (peer c j : Fin 8), fun _ _ h => peer_inj c h⟩) := by
  revert c; decide
/-- A device is none of its own peers. -/
theorem peers_not_mem (c : Dev nD) : (c : Fin 8) ∉ Finset.univ.map ⟨fun j : Fin 7 => (peer c j : Fin 8), fun _ _ h => peer_inj c h⟩ := by
  revert c; decide
/-- A product over the eight devices is the device's own factor and its seven peers'. -/
theorem own_and_peers (c : Dev nD) (Φ : Fin 8 → sProp 𝕄) : bigSep Finset.univ Φ = iprop(Φ c ∗ bigSep Finset.univ fun j : Fin 7 => Φ (peer c j)) := by
  rw [peers_cover c]
  refine Eq.trans (bigSep_insert (peers_not_mem c)) ?_
  rw [bigSep_map]; rfl

/-- The start of the signalling phase. -/
theorem sig_begin (c : Dev nD) :
    iprop(owesE c (O₀ c) ∗ (bigSep Finset.univ fun j : Fin 7 => dutyTok ER (barCell (peer c j)) 0 j)
        ∗ ∃ f : Buf (Elt F) (cLoc c), cLoc c ↦{fullShare} f) ⊢ sigS (F := F) c 0 := by
  unfold sigS; rw [From_zero]
  iintro ⟨HO, Ht, ⟨%f, Hf⟩⟩
  isplitl [HO]; · iexact HO
  ihave Hb := (Entails.of_eq (Ring.pointsTo_blocks comSet comSet_disjoint comSet_cover f)) $$ Hf
  iapply (Entails.of_eq (bigSep_sep' Finset.univ (fun j : Fin 7 => dutyTok ER (barCell (peer c j)) 0 j) (fun j => iprop(∃ f, comPts (F := F) c (rv j) f))).symm)
  isplitl [Ht]; · iexact Ht
  iapply ((show (bigSep Finset.univ fun j : Fin 7 => (cLoc c ↦[comSet j]{fullShare} f : sProp 𝕄)) ⊢ bigSep Finset.univ fun j : Fin 7 => iprop(∃ f, comPts (F := F) c j f) from
      bigSep_mono fun j _ => show comPts c j f ⊢ _ from by iintro H; iexists f; iexact H).trans
    (Entails.of_eq (bigSep_univ_equiv rvEquiv fun j : Fin 7 => iprop(∃ f, comPts (F := F) c j f))))
  iexact Hb

/-- The send buffer, whole and of any contents, is the state before the first slab is stored. -/
theorem acc_begin (c : Dev nD) : iprop(∃ f : Buf (Elt F) (aLoc c), aLoc c ↦{fullShare} f) ⊢ accS m ρ c 0 := by
  unfold accS; rw [From_zero, Upto_zero]
  iintro ⟨%f, Hf⟩
  ihave Hb := (Entails.of_eq (Ring.pointsTo_blocks accSet accSet_disjoint accSet_cover f)) $$ Hf
  isplitl [Hb]
  · iapply (show (bigSep Finset.univ fun j : Fin 8 => (aLoc c ↦[accSet j]{fullShare} f : sProp 𝕄)) ⊢ bigSep Finset.univ fun j : Fin 8 => iprop(∃ f, accPts (F := F) c j f) from
      bigSep_mono fun j _ => show accPts c j f ⊢ _ from by iintro H; iexists f; iexact H)
    iexact Hb
  iempintro

/-- After the eighth slab is stored, each slab holds its rows: the device's own, and its peers'. -/
theorem acc_end (c : Dev nD) : accS m ρ c 8 ⊢ iprop(accPts c c (accAt m ρ c) ∗ bigSep Finset.univ fun j : Fin 7 => accPts c (peer c j) (accAt m ρ c)) := by
  unfold accS
  iintro ⟨-, H⟩
  iapply (Entails.of_eq ((Upto_all (fun i : Fin 8 => accPts c i (accAt m ρ c))).trans (own_and_peers c _)))
  iexact H

/-- The start of the copying phase. -/
theorem cpy_begin (c : Dev nD) :
    iprop(owesE c (OS c 0) ∗ ((bigSep Finset.univ fun j : Fin 7 => dutyTok ER (sendCell c j) 0 0)
        ∗ bigSep Finset.univ fun j : Fin 7 => dutyTok ER (recvCell (peer c j) j) 0 0)
      ∗ (bigSep Finset.univ fun j : Fin 7 => iprop(∃ f, comPts (F := F) (peer c j) j f))
      ∗ bigSep Finset.univ fun j : Fin 7 => accPts c (peer c j) (accAt m ρ c)) ⊢ cpyS m ρ c 0 := by
  unfold cpyS; rw [From_zero, Upto_zero]
  unfold cpyR; simp only [bigSep_sep']
  iintro ⟨HO, ⟨H1, H2⟩, H3, H4⟩
  isplitl [HO]; · iexact HO
  isplitl
  · isplitl [H1 H2]
    · isplitl [H1] <;> iassumption
    isplitl [H3] <;> iassumption
  iempintro

/-- The waiting rights of the receive semaphores, put together copy by copy. -/
theorem rcv_pair (c : Dev nD) :
    iprop((bigSep Finset.univ fun j : Fin 7 => cred (tallyAt (recvCell c j) () N)) ∗ bigSep Finset.univ fun j : Fin 7 => atPos ER (recvCell c j) 0 ∅ 0)
      ⊢ bigSep Finset.univ (rcvR (F := F) c) := by
  unfold rcvR; rw [bigSep_sep']

/-- The own slab and the seven that come back from the copies are the whole send buffer. -/
theorem acc_join (c : Dev nD) :
    iprop(accPts c c (accAt m ρ c) ∗ bigSep Finset.univ fun j : Fin 7 => accPts c (peer c j) (accAt m ρ c))
      ⊢ iprop(∃ f : Buf (Elt F) (aLoc c), aLoc c ↦{fullShare} f) := by
  refine (Entails.of_eq (own_and_peers c fun i : Fin 8 => accPts c i (accAt m ρ c)).symm).trans ?_
  iintro H
  iexists (accAt m ρ c)
  iapply (Entails.of_eq (Ring.pointsTo_blocks accSet accSet_disjoint accSet_cover (accAt m ρ c)).symm)
  iexact H
/-- The seven landed slabs are the whole receive buffer. -/
theorem com_join (c : Dev nD) :
    (bigSep Finset.univ fun j : Fin 7 => comPts c j (landed m ρ c)) ⊢ iprop(∃ f : Buf (Elt F) (cLoc c), cLoc c ↦{fullShare} f) := by
  iintro H
  iexists (landed m ρ c)
  iapply (Entails.of_eq (Ring.pointsTo_blocks comSet comSet_disjoint comSet_cover (landed m ρ c)).symm)
  iexact H

/-- What the phases leave is what the body hands back. -/
theorem phi1_intro (c : Dev nD) :
    iprop(accPts c c (accAt m ρ c) ∗ bigSep Finset.univ (drnD m ρ c) ∗ bigSep Finset.univ (rcvD m ρ c) ∗ semVal (barCell c) 0) ⊢ Φ₁ (F := F) c := by
  unfold drnD rcvD Φ₁; simp only [bigSep_sep']
  iintro ⟨Ha, ⟨H1, H2⟩, ⟨H3, H4⟩, H5⟩
  isplitl [Ha H1 H3]
  · isplitl [Ha H1]
    · iapply (acc_join m ρ c)
      isplitl [Ha] <;> iassumption
    · iapply (com_join m ρ c); iexact H3
  isplitl [H2 H4]
  · isplitl [H2] <;> iassumption
  iexact H5

/-! ## The body -/

section Body

variable (K : Dev nD × Kd → ℕ)

/-- A staging buffer of the device, held with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- From the device's own resources, the four arguments staged and a result buffer at some contents, to the end. -/
theorem sound_core (c : Dev nD) (Q : PUnit → sProp 𝕄) (g : (cc0_stg4_0 : Ref sig .tc).ty.Contents (Elt F)) :
    iprop((records m ρ K ∗ levAts L lv) ∗ (linear c ∗ cred (tallyAt (barCell c) () 7) ∗ bigSep Finset.univ fun j : Fin 7 => cred (tallyAt (recvCell c j) () N))
        ∗ ((∃ f : Buf (Elt F) (aLoc c), aLoc c ↦{fullShare} f) ∗ ∃ f : Buf (Elt F) (cLoc c), cLoc c ↦{fullShare} f)
        ∗ owesE c (O₀ c) ∗ argS m ρ c ∗ whole c cc0_stg4_0 g)
      ⊢ iprop(((Φ₁ (F := F) c ∗ owesE c 0 ∗ argS m ρ c ∗ whole c cc0_stg4_0 (outAt m ρ c)) -∗ Q ⟨⟩)
        -∗ wp frame (wpE (defs₀ (F := F)) 𝒱₀ (c : Thread nD τ) none) Set.univ (cc0_body
          (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3) Q) := by
  rw [cc0_body_eq_skeleton]; unfold cc0_body_skel linear payToks
  iintro ⟨⟨#HR, #Hlev⟩, ⟨⟨⟨HaB, HaS, HaV⟩, HtB, HtS, HtV⟩, HcB, HcV⟩, ⟨Hacc, Hcom⟩, HO, Harg, Hout⟩ Hk
  ihave HS := (sig_begin (F := F) c) $$ [HO HtB Hcom]
  · isplitl [HO]; · iexact HO
    isplitl [HtB] <;> iassumption
  ihave Hacc := (acc_begin m ρ c) $$ Hacc
  ihave HV := (rcv_pair (F := F) c) $$ [HcV HaV]
  · isplitl [HcV] <;> iassumption
  rw [wp_bind]
  iapply (part1 m ρ K c _) $$ [HS]
  · isplitr; · iexact HR
    iexact HS
  iintro %r %hr HS
  obtain ⟨d0, v2, v3, a1, a2, a3⟩ := r
  obtain ⟨h1, h2, h3⟩ := hr
  dsimp only at h1 h2 h3
  subst h1; subst h2; subst h3
  rw [wp_bind]
  iapply (part2 m ρ K d0 _ _ _ _ _) $$ [HS]
  · isplitr; · iexact HR
    iexact HS
  iintro %r HS
  obtain ⟨b1, b2, b3⟩ := r
  rw [wp_bind]
  iapply (part3 m ρ K d0 _ _ _ _ _) $$ [HS HcB HaB]
  · isplitr; · iexact HR
    isplitr; · iexact Hlev
    isplitl [HS]; · iexact HS
    isplitl [HcB] <;> iassumption
  iintro ⟨HO, HzB, Hpeer⟩
  rw [wp_bind]
  iapply (part4 m ρ K d0 _) $$ [Harg]
  · isplitr; · iexact HR
    iexact Harg
  iintro Harg
  rw [wp_bind]
  iapply (part5 m ρ K d0 _) $$ [Harg Hacc]
  · isplitr; · iexact HR
    isplitl [Harg]; · iexact Harg
    iexact Hacc
  iintro ⟨Harg, Hacc⟩
  rw [wp_bind]
  iapply (part6 m ρ K d0 _ _) $$ [Hacc]
  · isplitr; · iexact HR
    iexact Hacc
  iintro %r Hacc
  obtain ⟨d1, d2, d3, d4⟩ := r
  ihave Ha := (acc_end m ρ d0) $$ Hacc
  icases Ha with ⟨Hmine, Hacc⟩
  ihave HS := (cpy_begin m ρ d0) $$ [HO HtS HtV Hpeer Hacc]
  · isplitl [HO]; · iexact HO
    isplitl [HtS HtV]
    · isplitl [HtS] <;> iassumption
    isplitl [Hpeer] <;> iassumption
  rw [wp_bind]
  iapply (part7 m ρ K d0 _ _ _ _ _ _) $$ [HS]
  · isplitr; · iexact HR
    iexact HS
  iintro %r HS
  obtain ⟨e1, e2⟩ := r
  rw [wp_bind]
  iapply (part8 m ρ K d0 _ _) $$ [HS]
  · isplitr; · iexact HR
    iexact HS
  iintro %r HS
  obtain ⟨f1, f2, f3, f4, f5⟩ := r
  rw [wp_bind]
  iapply (part9 m ρ K d0 _ _ _ _ _ _) $$ [HS]
  · isplitr; · iexact HR
    iexact HS
  iintro %r HS
  obtain ⟨g1, g2⟩ := r
  rw [wp_bind]
  iapply (part10 m ρ K d0 _ _) $$ [HS]
  · isplitr; · iexact HR
    iexact HS
  iintro %r HS
  obtain ⟨i1, i2⟩ := r
  rw [wp_bind]
  iapply (part11 m ρ K d0 _ _ _ _ _) $$ [HS Hmine HV]
  · isplitr; · iexact HR
    isplitl [HS]; · iexact HS
    isplitl [Hmine]; · iexact Hmine
    iexact HV
  iintro ⟨Hd, Hmine, HS⟩
  rw [wp_bind]
  iapply (part12 m ρ K d0 _ _ _ _) $$ [HS]
  · isplitr; · iexact HR
    iexact HS
  iintro HS
  rw [wp_bind]
  iapply (part13 m ρ K d0 _ _ _ _) $$ [HS]
  · isplitr; · iexact HR
    iexact HS
  iintro HS
  rw [wp_bind]
  iapply (part14 m ρ K d0 _ _ _ _) $$ [HS Hd HaS]
  · isplitr; · iexact HR
    isplitl [HS]; · iexact HS
    isplitl [Hd]; · iexact Hd
    iexact HaS
  iintro ⟨Hrcv, HS⟩
  rw [wp_bind]
  iapply (part15 m ρ K d0 _) $$ [HS]
  · isplitr; · iexact HR
    iexact HS
  iintro HS
  simp only [Prog.lift, Prog.bind_op, Prog.bind_ret, Prog.pure_eq_ret]
  iapply (drain_step m ρ K d0 6 _ (by decide)) $$ [HS]
  · isplitr; · iexact HR
    iexact HS
  iintro HS
  unfold whole
  iapply (wp_load 𝒱₀ (d0 : Thread nD τ) none Set.univ (m := oM) (Finset.subset_univ _)) $$ Hout; iintro Hout
  iapply (wp_store 𝒱₀ (d0 : Thread nD τ) none Set.univ (m := oM) (r := Rect.unit (s := S64x512) ![0, 0] S64x512.size inb_S64x512_S64x512_0_0) (Mk := Finset.univ) (Finset.subset_univ _)) $$ Hout; iintro Hout
  rw [write_o, wp_ret]; imodintro
  ihave Hd := (drn_end m ρ d0) $$ [HS]
  · iexact HS
  icases Hd with ⟨HO, Hd⟩
  iapply Hk
  isplitl [Hmine Hd Hrcv HzB]
  · iapply (phi1_intro m ρ d0)
    isplitl [Hmine]; · iexact Hmine
    isplitl [Hd]; · iexact Hd
    isplitl [Hrcv] <;> iassumption
  isplitl [HO]; · iexact HO
  isplitl [Harg]; · iexact Harg
  iexact Hout

/-- The tokens are fetched at the step. -/
theorem fetch0 (t : Fin cfg0.N) : (cfg0.win (0 : Fin 5)).fetch t = true := by rw [fin_N0 t]; rfl
/-- The router's matrix is fetched at the step. -/
theorem fetch1 (t : Fin cfg0.N) : (cfg0.win (1 : Fin 5)).fetch t = true := by rw [fin_N0 t]; rfl
/-- The table of experts is fetched at the step. -/
theorem fetch2 (t : Fin cfg0.N) : (cfg0.win (2 : Fin 5)).fetch t = true := by rw [fin_N0 t]; rfl
/-- The experts' matrices are fetched at the step. -/
theorem fetch3 (t : Fin cfg0.N) : (cfg0.win (3 : Fin 5)).fetch t = true := by rw [fin_N0 t]; rfl

/-- The body's precondition. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- The body's postcondition. -/
def bodyPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (istg m ρ c) ∗ stg c cc0_stg3_0 (estg m ρ c)
    ∗ stg c cc0_stg4_0 (outAt m ρ c))

/-- The body meets its specification on every device. -/
theorem sound_body (c : Dev nD) :
    bodyPre m ρ c ⊢ wp frame (wpE (defs₀ (F := F)) 𝒱₀ (c : Thread nD τ) none) Set.univ (cc0_body
          (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_scratch0) (Memref.isWhole_whole _)
        (Memref.whole cc0_scratch1) (Memref.isWhole_whole _) cc0_scratch2 cc0_scratch3) (fun _ => bodyPost m ρ c) := by
  unfold bodyPre Φ₀ start
  iintro ⟨⟨⟨⟨%K, #HR, Hlin⟩, HcB, HcV, #Hlev⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have hx0 : g0 = xstg m ρ c := by rw [hg0]; unfold Dat.before; rw [if_pos (fetch0 t0_0)]; rfl
  subst hx0
  have hx1 : g1 = wstg m ρ c := by rw [hg1]; unfold Dat.before; rw [if_pos (fetch1 t0_0)]; rfl
  subst hx1
  have hx2 : g2 = istg m ρ c := by rw [hg2]; unfold Dat.before; rw [if_pos (fetch2 t0_0)]; rfl
  subst hx2
  have hx3 : g3 = estg m ρ c := by rw [hg3]; unfold Dat.before; rw [if_pos (fetch3 t0_0)]; rfl
  subst hx3
  unfold Dat.owesAt Pipeline.owesWithin
  icases Ho with ⟨%W, %hW, HO⟩
  rw [show (dats m ρ 0 c).owed t0_0.castSucc = O₀ c from rfl]
  iapply (sound_core m ρ K c _ g4) $$ [Hlin HcB HcV Hscr HO H0 H1 H2 H3 H4]
  · isplitr
    · isplitr; · iexact HR
      iexact Hlev
    isplitl [Hlin HcB HcV]
    · isplitl [Hlin]; · iexact Hlin
      isplitl [HcB] <;> iassumption
    isplitl [Hscr]; · iexact Hscr
    isplitl [HO]; · unfold owesE; iexists W; iexact HO
    unfold argS whole
    isplitr [H4]
    · isplitl [H0]; · iexact H0
      isplitl [H1]; · iexact H1
      isplitl [H2] <;> iassumption
    iexact H4
  unfold argS whole owesE
  iintro ⟨HP, ⟨%W', HO⟩, ⟨H0, H1, H2, H3⟩, H4⟩
  unfold bodyPost Dat.owesAt Pipeline.owesWithin
  rw [show (dats m ρ 0 c).owed t0_0.succ = 0 from rfl]
  isplitl [HP]; · iexact HP
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

/-- The pipeline's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  exact sound_body m ρ c

end Body

end Cert.Moe

end
-- ==== Proof.Run.lean ====
/-
The mixture-of-experts kernel over eight devices: the launch, and the run of the whole program.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The fourteen copy semaphores are distinct and none of the staging's. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- The fifteen semaphores of a device are distinct. -/
theorem csem_inj : Function.Injective csem := by decide
/-- The semaphores of all devices are distinct. -/
theorem kcell_injective : Function.Injective (kcell : Dev nD × Kd → GSem nD τ sig) := by
  rintro ⟨c, k⟩ ⟨c', k'⟩ h
  have h1 : c = c' := congrArg (fun g : GSem nD τ sig => g.1.1) h
  subst h1
  have h2 : k = k' := csem_inj (congrArg Prod.snd h : csem k = csem k')
  rw [h2]
/-- All semaphores of the protocol. -/
def moeCells : Finset (GSem nD τ sig) := Finset.univ.map ⟨kcell, kcell_injective⟩

/-- The duty tokens of a device's own cells: its barrier's seven, and one for each of its copies' cells. -/
abbrev tokOf (ck : Dev nD × (Fin 7 ⊕ (Fin 7 ⊕ Fin 7))) : GSem nD τ sig × ℕ × Fin 7 := match ck.2 with
  | .inl d => (barCell ck.1, 0, d) | .inr (.inl j) => (sendCell ck.1 j, 0, 0) | .inr (.inr j) => (recvCell ck.1 j, 0, 0)
/-- A device's tokens belong to distinct duties. -/
theorem tokOf_sem_inj : Function.Injective fun k : Fin 7 ⊕ (Fin 7 ⊕ Fin 7) => ((match k with
    | .inl d => (.reg barS, d) | .inr (.inl j) => (.dma (sendS j), 0) | .inr (.inr j) => (.dma (recvS j), 0)) : SemLoc sig × Fin 7) := by decide
/-- All devices' tokens belong to distinct duties. -/
theorem tokOf_injective : Function.Injective (tokOf : Dev nD × (Fin 7 ⊕ (Fin 7 ⊕ Fin 7)) → GSem nD τ sig × ℕ × Fin 7) := by
  rintro ⟨c, k⟩ ⟨c', k'⟩ h
  have h1 : c = c' := by
    have := congrArg (fun x : GSem nD τ sig × ℕ × Fin 7 => x.1.1.1) h
    rcases k with d | j | j <;> rcases k' with d' | j' | j' <;> exact this
  subst h1
  have h2 : k = k' := tokOf_sem_inj (by
    have := congrArg (fun x : GSem nD τ sig × ℕ × Fin 7 => (x.1.2, x.2.2)) h
    rcases k with d | j | j <;> rcases k' with d' | j' | j' <;> exact this)
  rw [h2]
/-- All tokens of the protocol. -/
def moeToks : Finset (GSem nD τ sig × ℕ × Fin 7) := Finset.univ.map ⟨tokOf, tokOf_injective⟩

/-- The ghost state at the start. -/
def u₀ : UU :=
  (initOf (Pipeline.cells cfgs cellOf_inj) (Pipeline.launchToks cfgs cellOf_inj), initOf moeCells moeToks)

/-- The tokens of the duties on device `c`'s own semaphores. -/
def toks (c : Dev nD) : sProp 𝕄 :=
  iprop((bigSep Finset.univ fun d : Fin 7 => dutyTok ER (barCell c) 0 d)
    ∗ (bigSep Finset.univ fun j : Fin 7 => dutyTok ER (sendCell c j) 0 0) ∗ bigSep Finset.univ fun j : Fin 7 => dutyTok ER (recvCell c j) 0 0)

/-- What the launch deals a device, and what the step over all devices makes of it. -/
def G (c : Dev nD) : sProp 𝕄 :=
  iprop((bigSep Finset.univ fun k : Kd => roundState ER (rd m ρ) (kcell (c, k)) 0)
    ∗ (bigSep Finset.univ fun k : Kd => iprop(atPos ER (kcell (c, k)) 0 ∅ 0 ∗ reached ER (kcell (c, k)) 0)) ∗ toks c)
/-- What a device gets once the invariants are there. -/
def G' (c : Dev nD) : sProp 𝕄 := iprop(∃ K, records m ρ K ∗ linear c)

/-- A product over a device's fifteen semaphores is the barrier's factor, the sending ones' and the receiving ones'. -/
theorem bigSep_kd (Φ : Kd → sProp 𝕄) :
    bigSep Finset.univ Φ = iprop(Φ (.inl ()) ∗ (bigSep Finset.univ fun j : Fin 7 => Φ (.inr (.inl j))) ∗ bigSep Finset.univ fun j : Fin 7 => Φ (.inr (.inr j))) := by
  rw [bigSep_univ_sum, bigSep_univ_sum, bigSep_univ_of_subsingleton ()]; rfl

/-- The ghost state at the start gives each device its part. -/
theorem fund_moe : BI.own (ER (initOf moeCells moeToks)) ⊢ (|==> bigSep Finset.univ (G m ρ) : sProp 𝕄) := by
  have hX (Φ : GSem nD τ sig → sProp 𝕄) : bigSep moeCells Φ = bigSep Finset.univ fun c : Dev nD => bigSep Finset.univ fun k : Kd => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => by unfold toks; rw [bigSep_univ_sum, bigSep_univ_sum]; rfl
  iintro HX
  imod (Rounds.fund ER (rd m ρ) moeCells moeToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own semaphores at zero, one by one. -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [bigSep_univ_sum]; rfl
/-- The one semaphore outside the launch is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All fifteen semaphores of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_kd]
  iintro ⟨⟨HS, HV⟩, HB⟩
  isplitl [HB]; · iexact HB
  isplitl [HS]; · iexact HS
  iexact HV

/-- A device's semaphores become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and places, each place's members moved that many places on. -/
theorem turned (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (peer c j) j := by
  rw [bigSep_univ_comm, bigSep_univ_comm (fun (c : Dev nD) (j : Fin 7) => Φ (peer c j) j)]
  exact bigSep_congr fun j _ => bigSep_univ_equiv (turn j) fun c => Φ c j

/-- Tokens of the duties on each device's semaphores, handed to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    turned (fun c j => (dutyTok ER (barCell c) 0 j : sProp 𝕄)), turned (fun c j => (dutyTok ER (recvCell c j) 0 0 : sProp 𝕄))]

/-- Shared records can be given to every device. -/
theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- All devices' parts, with the invariants' records shared and the tokens handed around. -/
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kd => iprop(∃ κ : ℕ, cellInv ER (rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (rd m ρ) κ (kcell ck) : sProp 𝕄))) $$ HI
  icases HK with ⟨%K, #HI⟩
  ihave Htk := (toks_around (F := F)) $$ Htok
  iapply (with_records (R := records m ρ K) (Φ := fun c => linear c) (Ψ := G' m ρ) fun c => by
    unfold G'; iintro ⟨#H1, H2⟩; iexists K; isplitr; · iexact H1
    iexact H2)
  isplitr
  · unfold records; isplitl; · iexact HI
    iexact HR
  · iapply ((Entails.of_eq (bigSep_sep' Finset.univ (fun c : Dev nD => bigSep Finset.univ fun k : Kd => (atPos ER (kcell (c, k)) 0 ∅ 0 : sProp 𝕄)) payToks).symm).trans
      (bigSep_mono fun c _ => show _ ⊢ linear c from Entails.of_eq (by unfold linear; rw [bigSep_kd]; rfl)))
    isplitl [Hat]; · iexact Hat
    iexact Htk

/-- From the semaphores at zero and the ghost state, every device gets its start. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Barriers are equal when their devices are. -/
theorem bar_eq_iff {a b : Dev nD} : Iff (barCell a = barCell b) (a = b) :=
  ⟨fun h => congrArg (fun g : GSem nD τ sig => g.1.1) h, fun h => h ▸ rfl⟩
/-- The seven receive semaphores are distinct. -/
theorem recvS_inj : Function.Injective recvS := by decide
/-- Receive semaphores are equal when their devices and numbers are. -/
theorem recv_eq_iff {a b : Dev nD} {i j : Fin 7} : Iff (recvCell a i = recvCell b j) (a = b ∧ i = j) :=
  ⟨fun h => ⟨congrArg (fun g : GSem nD τ sig => g.1.1) h, recvS_inj (SemLoc.dma.inj (congrArg Prod.snd h))⟩, fun h => by rw [h.1, h.2]⟩

/-- A sum of tallies at one semaphore counts those that name it. -/
theorem sum_tally (S : Finset (Fin 7)) (f : Fin 7 → GSem nD τ sig) (n : ℕ) (g : GSem nD τ sig) :
    (∑ j ∈ S, tallyAt (f j) () n : CellTallies nD τ sig Unit) g () = ∑ j ∈ S, if g = f j then n else 0 := by
  rw [Finset.sum_apply, Finsupp.finset_sum_apply]
  refine Finset.sum_congr rfl fun j _ => ?_
  rw [tallyAt_apply]
  simp

/-- All seven numbers are at least 0. -/
theorem filter0 : (Finset.univ.filter fun j : Fin 7 => 0 ≤ j.val) = Finset.univ := by decide

/-- A barrier is no receive semaphore. -/
theorem bar_ne_recv (a b : Dev nD) (j : Fin 7) : barCell a ≠ recvCell b j := fun h =>
  absurd (show (SemLoc.reg barS : SemLoc sig) = .dma (recvS j) from congrArg Prod.snd h) (by intro h'; cases h')

/-- What device `d` owes device `c`'s barrier at the start. -/
theorem owed_bar (d c : Dev nD) : O₀ d (barCell c) () = ∑ j : Fin 7, if d = back c j then 1 else 0 := by
  unfold O₀ OB OS
  rw [Pi.add_apply, Finsupp.add_apply, sum_tally, sum_tally, filter0]
  rw [Finset.sum_eq_zero fun j _ => if_neg (bar_ne_recv c (peer d j) j), Nat.zero_add]
  exact Finset.sum_congr rfl fun j _ => if_congr (bar_eq_iff.trans (eq_comm.trans back_peer_iff)) rfl rfl
/-- What device `d` owes device `c`'s receive semaphore at the start. -/
theorem owed_recv (d c : Dev nD) (j : Fin 7) : O₀ d (recvCell c j) () = if d = back c j then N else 0 := by
  unfold O₀ OB OS
  rw [Pi.add_apply, Finsupp.add_apply, sum_tally, sum_tally, filter0]
  rw [Finset.sum_eq_zero (f := fun i : Fin 7 => if recvCell c j = barCell (peer d i) then 1 else 0) fun i _ => if_neg (bar_ne_recv (peer d i) c j).symm, Nat.add_zero,
    Finset.sum_eq_single j (fun i _ hi => if_neg fun h => hi (recv_eq_iff.mp h).2.symm) (fun h => absurd (Finset.mem_univ _) h)]
  exact if_congr (recv_eq_iff.trans ⟨fun h => back_peer_iff.mp h.1.symm, fun h => ⟨(back_peer_iff.mpr h).symm, rfl⟩⟩) rfl rfl

/-- The credits for a device's barrier that the launch gives. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (back c j) fun _ => 1).trans (if_pos (Finset.mem_univ _))]
  rfl
/-- The credits for a receive semaphore that the launch gives. -/
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (back c j) fun _ => N,
    if_pos (Finset.mem_univ _)]

/-- All credits that the launch gives a device. -/
theorem creds (c : Dev nD) :
    (Pipeline.launchCred O₀ c : sProp 𝕄) ⊢ iprop(cred (tallyAt (barCell c) () 7) ∗ bigSep Finset.univ fun j : Fin 7 => cred (tallyAt (recvCell c j) () N)) := by
  unfold Pipeline.launchCred
  refine (bigSep_subset (Finset.subset_univ (Finset.univ.map ⟨csem, csem_inj⟩))).trans ?_
  rw [bigSep_map, bigSep_kd]
  show iprop(cred (tallyOn (barCell c) (launchCredit (Pipeline.owing O₀) 0 (barCell c)))
    ∗ (bigSep Finset.univ fun j : Fin 7 => cred (tallyOn (sendCell c j) (launchCredit (Pipeline.owing O₀) 0 (sendCell c j))))
    ∗ bigSep Finset.univ fun j : Fin 7 => cred (tallyOn (recvCell c j) (launchCredit (Pipeline.owing O₀) 0 (recvCell c j)))) ⊢ _
  rw [launch_bar, bigSep_congr (s := Finset.univ) fun (j : Fin 7) _ => congrArg cred (launch_recv c j)]
  iintro ⟨H1, -, H2⟩
  isplitl [H1] <;> iassumption

/-! ## The theorem's side conditions -/

/-- The launch's credits and the device's part are its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- The start and the scratch buffers are the body's resources before the step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The body's resources after the step give the scratch buffers and the semaphores at zero back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz]; · iexact Hz
  iexact Hr

/-- No staging semaphore is a receive semaphore. -/
theorem stage_not_recv : ∀ (w : Fin 5) (s : Fin (spec0 w).nbuf), isRecv ((spec0 w).sem s) = false := by decide

/-- Every wait of the staging is allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_recv w s) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

/-- What the run ends with: every window's array, and every semaphore at zero. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, over any float values: every fair execution of the eight devices' program
    ends, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
The frames: every argument keeps its contents and every semaphore counter ends at zero, for the kernel over
either arithmetic and for the reference.
-/
module

public import proofs.«01_k».proof.Defs
public import proofs.«01_k».proof.Proof.Gen.Kernel
public import proofs.«01_k».proof.Proof.Gen.Pre_two_experts_KernelIdeal
public import proofs.«01_k».proof.Proof.Gen.Pre_two_experts_ReferenceIdeal
public import proofs.«01_k».proof.Proof.Run
public import proofs.«01_k».proof.Proof.Gen.ReferenceIdeal.Run

@[expose] public section

noncomputable section

namespace Cert.Moe

open Cert.KernelIdeal Cert.KernelIdeal.Gen

open Idealize.ShloMosaic
open Idealize.ShloMosaic.TcCoe
open Idealize.SL Idealize.SL.Sem

section
variable {F : FTy → Type} [FloatOps F]
variable (m : (ℓ : Loc nD τ sig) → Buf (Elt F) ℓ) (ρ : Dev nD → PrngReg)

/-- The token array is never written back. -/
theorem final_x (c : Dev nD) : finalA m ρ c (0 : Fin 5) = m ((c : Thread nD τ).loc main_arg0) :=
  (dats (F := F) m ρ 0 c).arrAt_in (0 : Fin 5) rfl _
/-- The router's matrix is never written back. -/
theorem final_w (c : Dev nD) : finalA m ρ c (1 : Fin 5) = m ((c : Thread nD τ).loc main_arg1) :=
  (dats (F := F) m ρ 0 c).arrAt_in (1 : Fin 5) rfl _
/-- The table of chosen experts is never written back. -/
theorem final_i (c : Dev nD) : finalA m ρ c (2 : Fin 5) = m ((c : Thread nD τ).loc main_arg2) :=
  (dats (F := F) m ρ 0 c).arrAt_in (2 : Fin 5) rfl _
/-- The device's two experts' matrices are never written back. -/
theorem final_e (c : Dev nD) : finalA m ρ c (3 : Fin 5) = m ((c : Thread nD τ).loc main_arg3) :=
  (dats (F := F) m ρ 0 c).arrAt_in (3 : Fin 5) rfl _

/-- The result array's one block ends as the sum of the eight devices' slabs. -/
theorem final_o (c : Dev nD) :
    (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The run read at its buffers: the result array's block, and the four arguments as they were. -/
theorem run_read : θ_run defs (onTc (τ := τ) (main (F := F))) (s₀ m ρ) fun r =>
    (∀ c : Dev nD, (win0_4.blk (0 : Fin 1)).view.read (Elt F) (r.2.mem ((c : Thread nD τ).loc main_v1)) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun r h => ⟨fun c =>
    ⟨(congrArg _ (h.1 c (4 : Fin 5))).trans (final_o m ρ c),
     (h.1 c (0 : Fin 5)).trans (final_x m ρ c), (h.1 c (1 : Fin 5)).trans (final_w m ρ c),
     (h.1 c (2 : Fin 5)).trans (final_i m ρ c), (h.1 c (3 : Fin 5)).trans (final_e m ρ c)⟩, h.2⟩) (run_main m ρ)

/-- The run read at its arguments alone. -/
theorem run_args : θ_run defs (onTc (τ := τ) (main (F := F))) (s₀ m ρ) fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0 :=
  (θ_run defs _ _).mono (fun r h => ⟨fun c => (h.1 c).2, h.2⟩) (run_read m ρ)
end

/-- The two printings of the kernel have the same bodies under their labels. -/
theorem defs₀_same : Cert.Kernel.defs₀ (F := Bits) = Cert.KernelIdeal.defs₀ (F := Bits) := by
  refine congrArg Defs.onTc (funext fun l => funext fun a => ?_)
  match l, a with
  | ⟨0, _⟩, (t, s) => rfl
  | ⟨_ + 1, h⟩, _ => exact absurd h (Nat.not_lt.2 (Nat.le_add_left _ _))
/-- So they have the same definitions. -/
theorem defs_same : Cert.Kernel.defs (F := Bits) = Cert.KernelIdeal.defs (F := Bits) :=
  congrArg (Pipeline.defs Cert.KernelIdeal.pcfgs) defs₀_same

/-- The kernel's frame over bit patterns. -/
theorem frame_kernel : Cert.quiescent_Kernel := by
  intro m ρ _
  rw [defs_same]
  exact run_args (F := Bits) m ρ
/-- The kernel's frame over extended reals. -/
theorem frame_ideal : Cert.quiescent_KernelIdeal := fun m ρ _ => run_args (F := Ideal) m ρ
/-- The same under the precondition, which it does not need. -/
theorem frame_ideal_pre : Cert.quiescent_KernelIdeal_pre_two_experts_KernelIdeal := fun m ρ _ => run_args (F := Ideal) m ρ

/-- The reference's frame: its operations write no argument, and it declares no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)
/-- The same under the precondition, which it does not need. -/
theorem frame_ref_pre : Cert.quiescent_ReferenceIdeal_pre_two_experts_ReferenceIdeal := fun m ρ _ =>
  (θ_run Cert.ReferenceIdeal.defs _ _).mono
    (fun r h => ⟨fun c => (h c).2, sem_eq_zero_of_no_sems (by decide) r.2⟩) (Cert.ReferenceIdeal.Value.run m ρ)

end Cert.Moe

end
-- ==== Proof.Routed.lean ====
/-
Sums over experts: a one-hot sum picks an entry, and a sum over sixteen experts of which two are chosen is
their two terms.
-/
module

public import proofs.«01_k».proof.Proof.Body
public import Idealize.ShloMosaic.Lib.Pointwise

@[expose] public section

set_option maxRecDepth 16384

noncomputable section

namespace Cert.Moe

open Idealize.ShloMosaic

/-- Two expert numbers' words are equal when the numbers are. -/
theorem word_eq (a e : Fin 16) :
    IntOp.cmpi .eq (BitVec.ofNat 32 a.val) (BitVec.ofNat 32 e.val) = if a = e then 1#1 else 0#1 := by
  revert a e; decide

/-- A sum of the entries at which a word matches is the entry that it names. -/
theorem pick (f : Fin 16 → EReal) (a : Fin 16) :
    ∑ e : Fin 16, Scalar.select (IntOp.cmpi .eq (BitVec.ofNat 32 e.val) (BitVec.ofNat 32 a.val)) (f e) 0 = f a := by
  have h : ∀ e : Fin 16, Scalar.select (IntOp.cmpi .eq (BitVec.ofNat 32 e.val) (BitVec.ofNat 32 a.val)) (f e) 0
      = if e = a then f e else 0 := by
    intro e
    rw [word_eq]
    by_cases he : e = a
    · rw [if_pos he, if_pos he]; exact if_pos rfl
    · rw [if_neg he, if_neg he]; exact if_neg (by decide)
  rw [Finset.sum_congr rfl fun e _ => h e, Finset.sum_ite_eq' Finset.univ a f, if_pos (Finset.mem_univ a)]

/-- A choice by either of two matching words is a choice by either of the two numbers. -/
theorem either (a b e : Fin 16) (v : EReal) :
    Scalar.select (IntOp.ori (IntOp.cmpi .eq (BitVec.ofNat 32 a.val) (BitVec.ofNat 32 e.val))
      (IntOp.cmpi .eq (BitVec.ofNat 32 b.val) (BitVec.ofNat 32 e.val))) v 0 = if a = e ∨ b = e then v else 0 := by
  rw [word_eq, word_eq]
  by_cases ha : a = e <;> by_cases hb : b = e
  · rw [if_pos ha, if_pos hb, if_pos (Or.inl ha)]; exact if_pos (by decide)
  · rw [if_pos ha, if_neg hb, if_pos (Or.inl ha)]; exact if_pos (by decide)
  · rw [if_neg ha, if_pos hb, if_pos (Or.inr hb)]; exact if_pos (by decide)
  · rw [if_neg ha, if_neg hb, if_neg (by tauto)]; exact if_neg (by decide)

/-- One expert's part of a token's result: its share of the two chosen probabilities times its product, when it is
    one of the two that the token chose. -/
def term (p y : Fin 16 → EReal) (a b e : Fin 16) : EReal :=
  if a = e ∨ b = e then Ideal.div (p e) (p a + p b) * y e else 0

/-- All sixteen experts' parts are the two chosen ones'. -/
theorem sum_term (p y : Fin 16 → EReal) (a b : Fin 16) (hab : a ≠ b) :
    ∑ e : Fin 16, term p y a b e
      = Ideal.div (p a) (p a + p b) * y a + Ideal.div (p b) (p a + p b) * y b := by
  have h : ∀ e : Fin 16, term p y a b e
      = (if a = e then Ideal.div (p e) (p a + p b) * y e else 0) + (if b = e then Ideal.div (p e) (p a + p b) * y e else 0) := by
    intro e
    unfold term
    by_cases ha : a = e
    · have hb : ¬ b = e := fun hb => hab (ha.trans hb.symm)
      rw [if_pos (Or.inl ha), if_pos ha, if_neg hb, add_zero]
    · by_cases hb : b = e
      · rw [if_pos (Or.inr hb), if_neg ha, if_pos hb, zero_add]
      · rw [if_neg (by tauto), if_neg ha, if_neg hb, add_zero]
  rw [Finset.sum_congr rfl fun e _ => h e, Finset.sum_add_distrib, Finset.sum_ite_eq Finset.univ a,
    Finset.sum_ite_eq Finset.univ b, if_pos (Finset.mem_univ a), if_pos (Finset.mem_univ b)]

/-- The number of a device's `t`-th expert. -/
def own (d : Fin 8) (t : Fin 2) : Fin 16 := ⟨d.val * 2 + t.val, by omega⟩

/-- The devices' pairs of experts are the sixteen experts. -/
theorem sum_own (f : Fin 16 → EReal) : ∑ d : Fin 8, (f (own d 0) + f (own d 1)) = ∑ e : Fin 16, f e := by
  rw [Fin.sum_univ_eight]
  have h : ∑ e : Fin 16, f e = f 0 + (f 1 + (f 2 + (f 3 + (f 4 + (f 5 + (f 6 + (f 7 + (f 8 + (f 9 + (f 10 + (f 11
      + (f 12 + (f 13 + (f 14 + f 15)))))))))))))) := by
    simp only [Fin.sum_univ_succ, Fin.sum_univ_zero, add_zero]
    rfl
  rw [h]
  show (f 0 + f 1) + (f 2 + f 3) + (f 4 + f 5) + (f 6 + f 7) + (f 8 + f 9) + (f 10 + f 11) + (f 12 + f 13) + (f 14 + f 15) = _
  simp only [add_assoc]

/-- A device's own part and what the seven others send it, in the order in which it adds them, are all eight parts. -/
theorem sum_devices (g : Fin 8 → EReal) (c : Fin 8) :
    g c + g (back c 0) + g (back c 1) + g (back c 2) + g (back c 3) + g (back c 4) + g (back c 5) + g (back c 6)
      = ∑ d : Fin 8, g d := by
  rw [Fin.sum_univ_eight]
  match c with
  | 0 => show g 0 + g 7 + g 6 + g 5 + g 4 + g 3 + g 2 + g 1 = _; ac_rfl
  | 1 => show g 1 + g 0 + g 7 + g 6 + g 5 + g 4 + g 3 + g 2 = _; ac_rfl
  | 2 => show g 2 + g 1 + g 0 + g 7 + g 6 + g 5 + g 4 + g 3 = _; ac_rfl
  | 3 => show g 3 + g 2 + g 1 + g 0 + g 7 + g 6 + g 5 + g 4 = _; ac_rfl
  | 4 => show g 4 + g 3 + g 2 + g 1 + g 0 + g 7 + g 6 + g 5 = _; ac_rfl
  | 5 => show g 5 + g 4 + g 3 + g 2 + g 1 + g 0 + g 7 + g 6 = _; ac_rfl
  | 6 => show g 6 + g 5 + g 4 + g 3 + g 2 + g 1 + g 0 + g 7 = _; ac_rfl
  | 7 => show g 7 + g 6 + g 5 + g 4 + g 3 + g 2 + g 1 + g 0 = _; ac_rfl

end Cert.Moe

end
-- ==== Proof.KernelAt.lean ====
/-
The kernel's result read at an element, over extended reals.
-/
module

public import proofs.«01_k».proof.Proof.Routed

@[expose] public section

set_option maxRecDepth 16384

noncomputable section

namespace Cert.Moe

open Cert.KernelIdeal Cert.KernelIdeal.Gen
open Idealize.ShloMosaic
open Idealize.ShloMosaic.TcCoe

/-- The router's probability of expert `e` for token `i`. -/
def prob (x : Vec Ideal S512x256 .bf16) (w : Vec Ideal S256x16 .bf16) (i : Fin 512) (e : Fin 16) : EReal :=
  k0_pay2 (F := Ideal) x w (ix2 i e)

/-- Expert `e`'s product for token `i`, at output column `o`. -/
def prod (x : Vec Ideal S512x256 .bf16) (E : (⟨3, ![16, 256, 512]⟩ : Shape).Idx → EReal) (i o : Fin 512) (e : Fin 16) : EReal :=
  ∑ k : Fin 256, x (ix2 i k) * E (ix3 e k o)

/-- The kernel's word for its device is the device's number. -/
theorem devW_eq (c : Dev nD) : devW c = BitVec.ofNat 32 c.val := by revert c; decide

/-- The words of a device's two experts. -/
theorem own_word0 (c : Dev nD) : Scalar.addi (Scalar.muli (devW c) 2#32) 0#32 = BitVec.ofNat 32 (own c 0).val := by
  revert c; decide
/-- The word of a device's second expert. -/
theorem own_word1 (c : Dev nD) : Scalar.addi (Scalar.muli (devW c) 2#32) 1#32 = BitVec.ofNat 32 (own c 1).val := by
  revert c; decide

/-- The loads of the table's two columns and of the two experts, at an element. -/
theorem icol0_at (idx : Vec Ideal S512x2 .i32) (i : Fin 512) : icol0 (F := Ideal) idx (ix2 i 0) = idx (ix2 i 0) := by
  refine congrArg idx (funext fun a => Fin.ext ?_)
  match a with
  | ⟨0, _⟩ => show 0 + 1 * i.val = i.val; omega
  | ⟨1, _⟩ => rfl
/-- The load of the table's second column, at an element. -/
theorem icol1_at (idx : Vec Ideal S512x2 .i32) (i : Fin 512) : icol1 (F := Ideal) idx (ix2 i 0) = idx (ix2 i 1) := by
  refine congrArg idx (funext fun a => Fin.ext ?_)
  match a with
  | ⟨0, _⟩ => show 0 + 1 * i.val = i.val; omega
  | ⟨1, _⟩ => rfl
/-- The load of the first expert, at an element. -/
theorem exp0_at (ew : Vec Ideal S2x256x512 .bf16) (k : Fin 256) (o : Fin 512) :
    exp0 (F := Ideal) ew (ix3 0 k o) = ew (ix3 0 k o) := by
  refine congrArg ew (funext fun a => Fin.ext ?_)
  match a with
  | ⟨0, _⟩ => rfl
  | ⟨1, _⟩ => show 0 + 1 * k.val = k.val; omega
  | ⟨2, _⟩ => show 0 + 1 * o.val = o.val; omega
/-- The load of the second expert, at an element. -/
theorem exp1_at (ew : Vec Ideal S2x256x512 .bf16) (k : Fin 256) (o : Fin 512) :
    exp1 (F := Ideal) ew (ix3 0 k o) = ew (ix3 1 k o) := by
  refine congrArg ew (funext fun a => Fin.ext ?_)
  match a with
  | ⟨0, _⟩ => rfl
  | ⟨1, _⟩ => show 0 + 1 * k.val = k.val; omega
  | ⟨2, _⟩ => show 0 + 1 * o.val = o.val; omega

/-- What a device's two experts give token `i` at column `o`, when the table holds the words of experts `a` and `b`. -/
theorem accOf_at (c : Dev nD) (x : Vec Ideal S512x256 .bf16) (w : Vec Ideal S256x16 .bf16) (idx : Vec Ideal S512x2 .i32)
    (ew : Vec Ideal S2x256x512 .bf16) (E : (⟨3, ![16, 256, 512]⟩ : Shape).Idx → EReal)
    (hE : ∀ (t : Fin 2) (k : Fin 256) (o : Fin 512), ew (ix3 t k o) = E (ix3 (own c t) k o)) (i o : Fin 512) (a b : Fin 16)
    (ha : idx (ix2 i 0) = BitVec.ofNat 32 a.val) (hb : idx (ix2 i 1) = BitVec.ofNat 32 b.val) :
    accOf (F := Ideal) (devW c) x w (icol0 (F := Ideal) idx) (icol1 (F := Ideal) idx) (exp0 (F := Ideal) ew)
        (exp1 (F := Ideal) ew) (ix2 i o)
      = term (prob x w i) (prod x E i o) a b (own c 0) + term (prob x w i) (prod x E i o) a b (own c 1) := by
  pointwise [accOf, k0_pay9, k0_pay1, k0_pay3, k0_pay4, k0_pay5, k0_pay6, k0_pay7, k0_pay8]
  have h0 : ∑ k : Fin 256, x (ix2 i k) * exp0 (F := Ideal) ew (ix3 0 k o) = prod x E i o (own c 0) :=
    Finset.sum_congr rfl fun k _ => by rw [exp0_at, hE 0]
  have h1 : ∑ k : Fin 256, x (ix2 i k) * exp1 (F := Ideal) ew (ix3 0 k o) = prod x E i o (own c 1) :=
    Finset.sum_congr rfl fun k _ => by rw [exp1_at, hE 1]
  have hp : ∀ e : Fin 16, k0_pay2 (F := Ideal) x w (ix2 i e) = prob x w i e := fun _ => rfl
  simp only [own_word0, own_word1, icol0_at, icol1_at, ha, hb, hp, pick, either, h0, h1]
  rfl

/-- A device's slab for device `c` is its rows `64 c`, `64 c + 1`, …. -/
theorem slab_at (s : FVec Ideal S512x512 .bf16) (c : Fin 8) (r : Fin 64) (o : Fin 512) :
    slab s c (ix3 0 r o) = s (ix2 ⟨c.val * 64 + r.val, by omega⟩ o) := by
  match c with
  | 0 => pointwise [slab, k0_pay12]
  | 1 => pointwise [slab, k0_pay12]
  | 2 => pointwise [slab, k0_pay13]
  | 3 => pointwise [slab, k0_pay14]
  | 4 => pointwise [slab, k0_pay15]
  | 5 => pointwise [slab, k0_pay16]
  | 6 => pointwise [slab, k0_pay17]
  | 7 => pointwise [slab, k0_pay18]

variable (m : (ℓ : Loc nD τ sig) → Buf (Elt Ideal) ℓ) (ρ : Dev nD → PrngReg)

/-- A device's result at an element: all eight devices' sums at its row. -/
theorem outAt_at (c : Dev nD) (r : Fin 64) (o : Fin 512) :
    outAt m ρ c (ix2 r o) = ∑ d : Fin 8, (acc m ρ d (ix2 ⟨c.val * 64 + r.val, by have : c.val < 8 := c.isLt; omega⟩ o) : EReal) := by
  rw [← sum_devices _ c]
  pointwise [outAt, k0_pay22, k0_pay21, k0_pay20, k0_pay19]
  simp only [slab_at]

/-- Each argument's one block is the whole array. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
/-- The router's one block is the whole matrix. -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
/-- The table's one block is the whole table. -/
theorem istg_eq (c : Dev nD) : istg m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _
/-- The experts' one block is the whole array. -/
theorem estg_eq (c : Dev nD) : estg m ρ c = m ((c : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide) _
/-- And the result's. -/
theorem result_read (f : main_v1.ty.Contents (Elt Ideal)) : (win0_4.blk (0 : Fin 1)).view.read (Elt Ideal) f = f := by
  have hz : (fun a => (win0_4.index (0 : Fin 1)) a * main_v1.ty.shape.size a) = fun _ => 0 :=
    funext fun a => by fin_cases a <;> decide
  exact Memref.read_access_unit_zero (Elt Ideal) main_v1 hz (fun a => by fin_cases a <;> decide) f

end Cert.Moe

end
-- ==== Proof.RefAt.lean ====
/-
The reference's result read at an element, over extended reals.
-/
module

public import proofs.«01_k».proof.Proof.KernelAt
public import proofs.«01_k».proof.Proof.Gen.ReferenceIdeal.Run

@[expose] public section

set_option maxRecDepth 16384

noncomputable section

namespace Cert.Moe

open Cert.ReferenceIdeal Cert.ReferenceIdeal.Gen Cert.ReferenceIdeal.Facts
open Idealize.ShloMosaic

/-- An entry of the gates' gather: the probability at the clamped expert number. -/
theorem gates_at {α : Type} (P : S512x16.Idx → α) (idx : IVec S512x2x1 32) (i : Fin 512) (k : Fin 2) :
    Host.gather gather_S512x16_S512x2x1_S512x2_n_1_0_0_1_2_11 P idx (ix2 i k)
      = P (ix2 i ⟨min (idx (ix3 i k 0)).toInt.toNat 15, by omega⟩) := by
  refine congrArg P (funext fun a => Fin.ext ?_)
  match a with
  | ⟨0, _⟩ => show 0 + i.val + 0 = i.val; omega
  | ⟨1, _⟩ =>
    show min (idx (GatherDims.siIdx gather_S512x16_S512x2x1_S512x2_n_1_0_0_1_2_11 (ix2 i k) ⟨0, by decide⟩)).toInt.toNat 15 + 0 + 0
      = min (idx (ix3 i k 0)).toInt.toNat 15
    have e : GatherDims.siIdx gather_S512x16_S512x2x1_S512x2_n_1_0_0_1_2_11 (ix2 i k) ⟨0, by decide⟩ = ix3 i k 0 := by
      funext b
      match b with
      | ⟨0, _⟩ => rfl
      | ⟨1, _⟩ => rfl
      | ⟨2, _⟩ => rfl
    rw [e]
    omega

/-- An entry of the experts' gather: the matrix of the clamped expert number. -/
theorem experts_at {α : Type} (E : S16x256x512.Idx → α) (idx : IVec S512x1 32) (i : Fin 512) (k : Fin 256) (o : Fin 512) :
    Host.gather gather_S16x256x512_S512x1_S512x256x512_12_0_n_n_0_1_1256512 E idx (ix3 i k o)
      = E (ix3 ⟨min (idx (ix2 i 0)).toInt.toNat 15, by omega⟩ k o) := by
  refine congrArg E (funext fun a => Fin.ext ?_)
  match a with
  | ⟨0, _⟩ =>
    show min (idx (GatherDims.siIdx gather_S16x256x512_S512x1_S512x256x512_12_0_n_n_0_1_1256512 (ix3 i k o) ⟨0, by decide⟩)).toInt.toNat 15 + 0 + 0
      = min (idx (ix2 i 0)).toInt.toNat 15
    have e : GatherDims.siIdx gather_S16x256x512_S512x1_S512x256x512_12_0_n_n_0_1_1256512 (ix3 i k o) ⟨0, by decide⟩ = ix2 i 0 := by
      funext b
      match b with
      | ⟨0, _⟩ => rfl
      | ⟨1, _⟩ => rfl
    rw [e]
    omega
  | ⟨1, _⟩ => show 0 + 0 + k.val = k.val; omega
  | ⟨2, _⟩ => show 0 + 0 + o.val = o.val; omega

/-- The reference's scores. -/
def refS (x : FVec Ideal S512x256 .bf16) (w : FVec Ideal S256x16 .bf16) : FVec Ideal S512x16 .f32 :=
  Host.dotGeneral dot_S512x256_S256x16_S512x16_1_0_0_1_n_n none (extf .f32 x bitsLt_bf16_f32) (extf .f32 w bitsLt_bf16_f32)
/-- Their exponentials below the row's greatest. -/
def refE (x : FVec Ideal S512x256 .bf16) (w : FVec Ideal S256x16 .bf16) : FVec Ideal S512x16 .f32 :=
  Host.exp (subf (refS x w) (broadcastInDim S512x16 ![0, 1] bcast_S512x1_S512x16_0_1 (broadcastInDim S512x1 ![0] bcast_S512_S512x1_0 (Host.reduce FloatOps.maximumf (refS x w) (constant S_ .f32 0xFF800000#32) reducesTo_S512x16_S512_d1 h_S_))))
/-- The reference's probabilities. -/
def refP (x : FVec Ideal S512x256 .bf16) (w : FVec Ideal S256x16 .bf16) : FVec Ideal S512x16 .f32 :=
  Host.divf (refE x w) (broadcastInDim S512x16 ![0, 1] bcast_S512x1_S512x16_0_1 (broadcastInDim S512x1 ![0] bcast_S512_S512x1_0 (Host.reduceAdd (refE x w) (constant S_ .f32 0x00000000#32) reducesTo_S512x16_S512_d1 h_S_)))
/-- The two chosen probabilities of each token. -/
def refG (x : FVec Ideal S512x256 .bf16) (w : FVec Ideal S256x16 .bf16) (idx : IVec S512x2 32) : FVec Ideal S512x2 .f32 :=
  Host.gather gather_S512x16_S512x2x1_S512x2_n_1_0_0_1_2_11 (refP x w) (shapeCast S512x2x1 (select (cmpi .slt idx (broadcastInDim S512x2 ![] bcast_S_S512x2 (constantI S_ 32 0#32))) (addi idx (broadcastInDim S512x2 ![] bcast_S_S512x2 (constantI S_ 32 16#32))) idx) shapeCasts_S512x2_S512x2x1)
/-- The reference's result. -/
def refOut (x : FVec Ideal S512x256 .bf16) (w : FVec Ideal S256x16 .bf16) (idx : IVec S512x2 32) (E : FVec Ideal S16x256x512 .bf16) :
    FVec Ideal S512x512 .f32 :=
  addf (mulf (broadcastInDim S512x512 ![0, 1] bcast_S512x1_S512x512_0_1 (Host.divf (extractStridedSlice S512x1 ![0, 0] (refG x w idx) slices_S512x2_S512x1_0_0) (addf (extractStridedSlice S512x1 ![0, 0] (refG x w idx) slices_S512x2_S512x1_0_0) (extractStridedSlice S512x1 ![0, 1] (refG x w idx) slices_S512x2_S512x1_0_1)))) (Host.dotGeneral dot_S512x256_S512x256x512_S512x512_1_1_n_2_0_0 none (extf .f32 x bitsLt_bf16_f32) (Host.gather gather_S16x256x512_S512x1_S512x256x512_12_0_n_n_0_1_1256512 (extf .f32 E bitsLt_bf16_f32) (broadcastInDim S512x1 ![0] bcast_S512_S512x1_0 (select (cmpi .slt (shapeCast _ (extractStridedSlice S512x1 ![0, 0] idx slices_S512x2_S512x1_0_0) shapeCasts_S512x1_S512) (broadcastInDim S512 ![] bcast_S_S512 (constantI S_ 32 0#32))) (addi (shapeCast _ (extractStridedSlice S512x1 ![0, 0] idx slices_S512x2_S512x1_0_0) shapeCasts_S512x1_S512) (broadcastInDim S512 ![] bcast_S_S512 (constantI S_ 32 16#32))) (shapeCast _ (extractStridedSlice S512x1 ![0, 0] idx slices_S512x2_S512x1_0_0) shapeCasts_S512x1_S512)))))) (mulf (broadcastInDim S512x512 ![0, 1] bcast_S512x1_S512x512_0_1 (Host.divf (extractStridedSlice S512x1 ![0, 1] (refG x w idx) slices_S512x2_S512x1_0_1) (addf (extractStridedSlice S512x1 ![0, 0] (refG x w idx) slices_S512x2_S512x1_0_0) (extractStridedSlice S512x1 ![0, 1] (refG x w idx) slices_S512x2_S512x1_0_1)))) (Host.dotGeneral dot_S512x256_S512x256x512_S512x512_1_1_n_2_0_0 none (extf .f32 x bitsLt_bf16_f32) (Host.gather gather_S16x256x512_S512x1_S512x256x512_12_0_n_n_0_1_1256512 (extf .f32 E bitsLt_bf16_f32) (broadcastInDim S512x1 ![0] bcast_S512_S512x1_0 (select (cmpi .slt (shapeCast _ (extractStridedSlice S512x1 ![0, 1] idx slices_S512x2_S512x1_0_1) shapeCasts_S512x1_S512) (broadcastInDim S512 ![] bcast_S_S512 (constantI S_ 32 0#32))) (addi (shapeCast _ (extractStridedSlice S512x1 ![0, 1] idx slices_S512x2_S512x1_0_1) shapeCasts_S512x1_S512) (broadcastInDim S512 ![] bcast_S_S512 (constantI S_ 32 16#32))) (shapeCast _ (extractStridedSlice S512x1 ![0, 1] idx slices_S512x2_S512x1_0_1) shapeCasts_S512x1_S512))))))

/-- The reference's run leaves that result. -/
theorem res_eq (m : (ℓ : Loc nD τ sig) → Buf (Elt Ideal) ℓ) :
    Cert.ReferenceIdeal.Value.res_main_v45 (F := Ideal) m 0
      = refOut (m (((0 : Dev nD).tc : Thread nD τ).loc main_arg0)) (m (((0 : Dev nD).tc : Thread nD τ).loc main_arg1))
          (m (((0 : Dev nD).tc : Thread nD τ).loc main_arg2)) (m (((0 : Dev nD).tc : Thread nD τ).loc main_arg3)) := rfl

/-- The reference's probabilities are the kernel's. -/
theorem refP_at (x : FVec Ideal S512x256 .bf16) (w : FVec Ideal S256x16 .bf16) (i : Fin 512) (e : Fin 16) :
    refP x w (ix2 i e) = prob x w i e := by
  pointwise [refP, refE, refS, prob, Cert.KernelIdeal.Gen.k0_pay2, Cert.KernelIdeal.Gen.k0_pay1]

/-- The word of an expert's number passes the reference's wrap and clamp unchanged. -/
theorem wrap_word (a : Fin 16) :
    (⟨min (Scalar.select (IntOp.cmpi .slt (BitVec.ofNat 32 a.val) 0#32) (IntOp.addi (BitVec.ofNat 32 a.val) 16#32)
      (BitVec.ofNat 32 a.val)).toInt.toNat 15, by omega⟩ : Fin 16) = a := by
  revert a; decide

/-- The reference's result for token `i` at column `o`, when the table holds the words of experts `a` and `b`. -/
theorem refOut_at (x : FVec Ideal S512x256 .bf16) (w : FVec Ideal S256x16 .bf16) (idx : IVec S512x2 32)
    (E : FVec Ideal S16x256x512 .bf16) (i o : Fin 512) (a b : Fin 16)
    (ha : idx (ix2 i 0) = BitVec.ofNat 32 a.val) (hb : idx (ix2 i 1) = BitVec.ofNat 32 b.val) :
    refOut x w idx E (ix2 i o)
      = Ideal.div (prob x w i a) (prob x w i a + prob x w i b) * prod x E i o a
        + Ideal.div (prob x w i b) (prob x w i a + prob x w i b) * prod x E i o b := by
  pointwise [refOut, refG, gates_at, experts_at, refP_at]
  simp only [ha, hb, wrap_word]
  rfl

end Cert.Moe

end
-- ==== Proof.Algebraic.lean ====
/-
Under the precondition the kernel's result over extended reals is the reference's.
-/
module

public import proofs.«01_k».proof.Proof.Frames
public import proofs.«01_k».proof.Proof.RefAt
public import Idealize.ShloMosaic.Lib.ReduceAll
public import Idealize.ShloMosaic.Lib.WordCmp
public import Idealize.ShloMosaic.Lib.LayoutAt

@[expose] public section

set_option maxRecDepth 16384

noncomputable section

namespace Cert.Moe

open Cert.KernelIdeal Cert.KernelIdeal.Gen
open Idealize.ShloMosaic
open Idealize.ShloMosaic.TcCoe
open Idealize.SL Idealize.SL.Sem

/-- A word that is at least 0 and below 16 as a signed number is the word of an expert's number. -/
theorem word_of_bounds (v : BitVec 32) (h0 : IntOp.cmpi .sge v 0#32 = 1#1) (h1 : IntOp.cmpi .slt v 16#32 = 1#1) :
    ∃ a : Fin 16, v = BitVec.ofNat 32 a.val := by
  rw [WordCmp.cmpi_sge_eq, WordCmp.ofBool_decide_eq_one_iff] at h0
  rw [WordCmp.cmpi_slt_eq, WordCmp.ofBool_decide_eq_one_iff] at h1
  have e0 : (0#32).toInt = 0 := by decide
  have e1 : (16#32).toInt = 16 := by decide
  rw [e0] at h0
  rw [e1] at h1
  have hv : v.toNat < 16 := by
    have := v.isLt
    rw [BitVec.toInt_eq_toNat_cond] at h0 h1
    split at h0 <;> omega
  refine ⟨⟨v.toNat, hv⟩, ?_⟩
  exact BitVec.eq_of_toNat_eq (by rw [BitVec.toNat_ofNat]; exact (Nat.mod_eq_of_lt v.isLt).symm)

/-- A result without axes has one index. -/
instance : Subsingleton Cert.Pre_two_experts_KernelIdeal.S_.Idx := ⟨fun a b => funext fun i => i.elim0⟩

/-- The precondition read at a token: the table's row holds the words of two different experts. -/
theorem two_experts_at (x : FVec Ideal S512x256 .bf16) (w : FVec Ideal S256x16 .bf16) (idx : IVec S512x2 32)
    (E : FVec Ideal S2x256x512 .bf16)
    (h : Cert.Pre_two_experts_KernelIdeal.fn (F := Ideal) x w idx E = fun _ => 1#1) (i : Fin 512) :
    ∃ a b : Fin 16, a ≠ b ∧ idx (ix2 i 0) = BitVec.ofNat 32 a.val ∧ idx (ix2 i 1) = BitVec.ofNat 32 b.val := by
  have hj := congrFun h ix0
  dsimp only [Cert.Pre_two_experts_KernelIdeal.fn] at hj
  obtain ⟨hb, hn⟩ := IntOp.andi_eq_one.1 hj
  obtain ⟨hg, hl⟩ := IntOp.andi_eq_one.1 hb
  have g0 := Host.reduce_andi_all _ _ _ _ _ hg (ix2 i 0)
  have g1 := Host.reduce_andi_all _ _ _ _ _ hg (ix2 i 1)
  have l0 := Host.reduce_andi_all _ _ _ _ _ hl (ix2 i 0)
  have l1 := Host.reduce_andi_all _ _ _ _ _ hl (ix2 i 1)
  have n := Host.reduce_andi_all _ _ _ _ _ hn (ix1 i)
  obtain ⟨a, ha⟩ := word_of_bounds (idx (ix2 i 0)) g0 l0
  obtain ⟨b, hb⟩ := word_of_bounds (idx (ix2 i 1)) g1 l1
  refine ⟨a, b, fun hab => ?_, ha, hb⟩
  have n' : IntOp.cmpi .ne (idx (ix2 i 0)) (idx (ix2 i 1)) = 1#1 := by
    rw [← n]
    pointwise
  rw [ha, hb, hab, WordCmp.cmpi_ne_eq, WordCmp.ofBool_decide_eq_one_iff] at n'
  exact n' rfl

/-- Device `c`'s block of the experts' matrices holds its own two experts. -/
theorem block_experts (c : Fin 8) (E : (⟨3, ![16, 256, 512]⟩ : Shape).Idx → EReal) (t : Fin 2) (k : Fin 256) (o : Fin 512)
    (h : Layout.Tiles ⟨3, ![2, 256, 512]⟩ ⟨3, ![16, 256, 512]⟩ 0 8) :
    Layout.block ⟨3, ![2, 256, 512]⟩ ⟨3, ![16, 256, 512]⟩ 0 8 c E h (ix3 t k o) = E (ix3 (own c t) k o) := by
  refine congrArg E (Layout.idx_ext fun b => ?_)
  match b with
  | ⟨0, _⟩ => rfl
  | ⟨1, _⟩ => rfl
  | ⟨2, _⟩ => rfl

/-- Device `c`'s block of the result is its 64 rows. -/
theorem block_rows (c : Fin 8) (v : (⟨2, ![512, 512]⟩ : Shape).Idx → EReal) (r : Fin 64) (o : Fin 512)
    (h : Layout.Tiles ⟨2, ![64, 512]⟩ ⟨2, ![512, 512]⟩ 0 8) :
    Layout.block ⟨2, ![64, 512]⟩ ⟨2, ![512, 512]⟩ 0 8 c v h (ix2 r o) = v (ix2 ⟨c.val * 64 + r.val, by omega⟩ o) := by
  refine congrArg v (Layout.idx_ext fun b => ?_)
  match b with
  | ⟨0, _⟩ => rfl
  | ⟨1, _⟩ => rfl

/-- The devices' sums at one element are the reference's result there. -/
theorem sum_acc (m : (ℓ : Loc nD τ sig) → Buf (Elt Ideal) ℓ) (ρ : Dev nD → PrngReg)
    (x : FVec Ideal S512x256 .bf16) (w : FVec Ideal S256x16 .bf16) (idx : IVec S512x2 32)
    (E : FVec Ideal ⟨3, ![16, 256, 512]⟩ .bf16)
    (hx : ∀ d : Dev nD, xstg m ρ d = x) (hw : ∀ d : Dev nD, wstg m ρ d = w) (hi : ∀ d : Dev nD, istg m ρ d = idx)
    (hE : ∀ (d : Dev nD) (t : Fin 2) (k : Fin 256) (o : Fin 512), estg m ρ d (ix3 t k o) = E (ix3 (own d t) k o))
    (i o : Fin 512) (a b : Fin 16) (hab : a ≠ b)
    (ha : idx (ix2 i 0) = BitVec.ofNat 32 a.val) (hb : idx (ix2 i 1) = BitVec.ofNat 32 b.val) :
    ∑ d : Fin 8, (acc m ρ d (ix2 i o) : EReal) = refOut x w idx E (ix2 i o) := by
  have h : ∀ d : Fin 8, (acc m ρ d (ix2 i o) : EReal)
      = term (prob x w i) (prod x E i o) a b (own d 0) + term (prob x w i) (prod x E i o) a b (own d 1) := by
    intro d
    have e := accOf_at d (xstg m ρ d) (wstg m ρ d) (istg m ρ d) (estg m ρ d) E (hE d) i o a b
      (by rw [hi d]; exact ha) (by rw [hi d]; exact hb)
    rw [hx d, hw d] at e
    rw [← e, ← hx d, ← hw d]
    rfl
  rw [Finset.sum_congr rfl fun d _ => h d, sum_own (term (prob x w i) (prod x E i o) a b),
    sum_term _ _ _ _ hab, refOut_at x w idx E i o a b ha hb]

/-- The value claim: from arguments laid out alike, under the precondition, each device ends with its block of the
    reference's result. -/
theorem algebraic : Cert.algebraic_KernelIdeal_ReferenceIdeal_pre_two_experts_KernelIdeal := by
  intro m g m' g' hpre harg
  refine ⟨Cert.ReferenceIdeal.Value.res_main_v45 (F := Ideal) m' 0, ?_, ?_⟩
  · refine (θ_run defs _ _).mono (fun r h c => ⟨?_, (h.1 c).2⟩) (run_read (F := Ideal) m g)
    rw [← result_read (r.2.mem ((c : Thread nD τ).loc main_v1)), (h.1 c).1, res_eq]
    funext j
    obtain ⟨r', o, rfl⟩ : ∃ (r' : Fin 64) (o : Fin 512), j = ix2 r' o :=
      ⟨j 0, j 1, Layout.idx_ext fun b => by match b with | ⟨0, _⟩ => rfl | ⟨1, _⟩ => rfl⟩
    rw [outAt_at m g c r' o]
    refine Eq.trans ?_ (block_rows c _ r' o _).symm
    obtain ⟨a, b, hab, ha, hb⟩ := two_experts_at _ _ _ _ (hpre c) ⟨c.val * 64 + r'.val, by have : c.val < 8 := c.isLt; omega⟩
    rw [(harg c).2.2.1] at ha hb
    exact sum_acc m g _ _ _ _ (fun d => (xstg_eq m g d).trans (harg d).1) (fun d => (wstg_eq m g d).trans (harg d).2.1)
      (fun d => (istg_eq m g d).trans (harg d).2.2.1)
      (fun d t k o => (congrFun ((estg_eq m g d).trans (harg d).2.2.2) (ix3 t k o)).trans (block_experts d _ t k o _))
      _ o a b hab ha hb
  · exact (θ_run Cert.ReferenceIdeal.defs _ _).mono (fun r h => h 0) (Cert.ReferenceIdeal.Value.run (F := Ideal) m' g')

end Cert.Moe

end
-- ==== Proof.lean ====
/-
The certificate's seven claims together: the frames of the kernel over either arithmetic and of the reference,
that the ideal program is the kernel over the extended reals, and that under `two_experts` the kernel computes
the reference's function over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_two_experts_KernelIdeal
public import proofs.«01_k».proof.Proof.Gen.Pre_two_experts_ReferenceIdeal
public import proofs.«01_k».proof.Proof.Frames
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Pre_two_experts_KernelIdeal.Gen.facts, Cert.Pre_two_experts_ReferenceIdeal.Gen.facts,
  Cert.Moe.frame_kernel, Cert.Moe.frame_ideal, Cert.Moe.frame_ideal_pre, Cert.Moe.frame_ref, Cert.Moe.frame_ref_pre,
  trivial, Cert.Moe.algebraic⟩

end Cert.Proof

end
